-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x13 : Shape := ⟨2, ![16384, 13]⟩
abbrev S16384x26 : Shape := ⟨2, ![16384, 26]⟩
abbrev S26x100001x16 : Shape := ⟨3, ![26, 100001, 16]⟩
abbrev S429x64 : Shape := ⟨2, ![429, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : FVec F S16384x13 .f32) (main_arg1 : IVec S16384x26 32) (main_arg2 : FVec F S26x100001x16 .f32) (main_arg3 : FVec F S429x64 .f32) (main_arg4 : FVec F S64 .f32) (main_arg5 : FVec F S64x32 .f32) (main_arg6 : FVec F S32 .f32) (main_arg7 : FVec F S32x1 .f32) (main_arg8 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x13 : Shape := ⟨2, ![16384, 13]⟩
abbrev S16384x26 : Shape := ⟨2, ![16384, 26]⟩
abbrev S26x100001x16 : Shape := ⟨3, ![26, 100001, 16]⟩
abbrev S429x64 : Shape := ⟨2, ![429, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S26 : Shape := ⟨1, ![26]⟩
abbrev S_ : Shape := ⟨0, ![]⟩
abbrev S1x26 : Shape := ⟨2, ![1, 26]⟩
abbrev S32x104x128 : Shape := ⟨3, ![32, 104, 128]⟩
abbrev S16384x26x1 : Shape := ⟨3, ![16384, 26, 1]⟩
abbrev S16 : Shape := ⟨1, ![16]⟩
abbrev S1x1x16 : Shape := ⟨3, ![1, 1, 16]⟩
abbrev S16384x26x16 : Shape := ⟨3, ![16384, 26, 16]⟩
abbrev S32x1664x128 : Shape := ⟨3, ![32, 1664, 128]⟩
abbrev S325728x128 : Shape := ⟨2, ![325728, 128]⟩
abbrev S1x3712x16 : Shape := ⟨3, ![1, 3712, 16]⟩
abbrev S464x128 : Shape := ⟨2, ![464, 128]⟩
abbrev S3712x16 : Shape := ⟨2, ![3712, 16]⟩
abbrev S464x8x16 : Shape := ⟨3, ![464, 8, 16]⟩
abbrev S464x1x16 : Shape := ⟨3, ![464, 1, 16]⟩
abbrev S464x16 : Shape := ⟨2, ![464, 16]⟩
abbrev S32x26x64x128 : Shape := ⟨4, ![32, 26, 64, 128]⟩
abbrev S104x128 : Shape := ⟨2, ![104, 128]⟩
abbrev S512x128 : Shape := ⟨2, ![512, 128]⟩
abbrev S64x128 : Shape := ⟨2, ![64, 128]⟩
abbrev S1x104x128 : Shape := ⟨3, ![1, 104, 128]⟩
abbrev S128x128 : Shape := ⟨2, ![128, 128]⟩
abbrev S1x128 : Shape := ⟨2, ![1, 128]⟩
abbrev S128 : Shape := ⟨1, ![128]⟩
abbrev S1x64x128 : Shape := ⟨3, ![1, 64, 128]⟩
abbrev S1x16 : Shape := ⟨2, ![1, 16]⟩
abbrev S1x1x64x128 : Shape := ⟨4, ![1, 1, 64, 128]⟩
abbrev S16384x416 : Shape := ⟨2, ![16384, 416]⟩
abbrev S13x64 : Shape := ⟨2, ![13, 64]⟩
abbrev S416x64 : Shape := ⟨2, ![416, 64]⟩
abbrev S1x64 : Shape := ⟨2, ![1, 64]⟩
abbrev S1x32 : Shape := ⟨2, ![1, 32]⟩
abbrev S1x1 : Shape := ⟨2, ![1, 1]⟩
abbrev S16384x1 : Shape := ⟨2, ![16384, 1]⟩
abbrev S2048x13 : Shape := ⟨2, ![2048, 13]⟩
abbrev S2048x416 : Shape := ⟨2, ![2048, 416]⟩
abbrev S2048x1 : Shape := ⟨2, ![2048, 1]⟩
abbrev S2048x64 : Shape := ⟨2, ![2048, 64]⟩
abbrev S2048x32 : Shape := ⟨2, ![2048, 32]⟩
abbrev S16384 : Shape := ⟨1, ![16384]⟩

abbrev nBuf : Table → Nat
  | .hbm => 43
  | .local .tc .vmem => 17
  | .local .scVector .vmem => 4
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S26x100001x16, .f32⟩
  | .hbm, ⟨3, _⟩ => ⟨S429x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S26, .i32⟩
  | .hbm, ⟨10, _⟩ => ⟨S_, .i32⟩
  | .hbm, ⟨11, _⟩ => ⟨S26, .i32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S16384x26, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S32x104x128, .i32⟩
  | .hbm, ⟨20, _⟩ => ⟨S_, .i32⟩
  | .hbm, ⟨21, _⟩ => ⟨S16384x26, .i32⟩
  | .hbm, ⟨22, _⟩ => ⟨S16384x26, .i32⟩
  | .hbm, ⟨23, _⟩ => ⟨S_, .i32⟩
  | .hbm, ⟨24, _⟩ => ⟨S16384x26, .i32⟩
  | .hbm, ⟨25, _⟩ => ⟨S16384x26, .i32⟩
  | .hbm, ⟨26, _⟩ => ⟨S16384x26x1, .i32⟩
  | .hbm, ⟨27, _⟩ => ⟨S16, .i32⟩
  | .hbm, ⟨28, _⟩ => ⟨S1x1x16, .i32⟩
  | .hbm, ⟨29, _⟩ => ⟨S16384x26x16, .i32⟩
  | .hbm, ⟨30, _⟩ => ⟨S16384x26x16, .i32⟩
  | .hbm, ⟨31, _⟩ => ⟨S16384x26x16, .i32⟩
  | .hbm, ⟨32, _⟩ => ⟨S32x1664x128, .i32⟩
  | .hbm, ⟨33, _⟩ => ⟨S325728x128, .f32⟩
  | .hbm, ⟨34, _⟩ => ⟨S32x26x64x128, .f32⟩
  | .hbm, ⟨35, _⟩ => ⟨S16384x416, .f32⟩
  | .hbm, ⟨36, _⟩ => ⟨S13x64, .f32⟩
  | .hbm, ⟨37, _⟩ => ⟨S416x64, .f32⟩
  | .hbm, ⟨38, _⟩ => ⟨S1x64, .f32⟩
  | .hbm, ⟨39, _⟩ => ⟨S1x32, .f32⟩
  | .hbm, ⟨40, _⟩ => ⟨S1x1, .f32⟩
  | .hbm, ⟨41, _⟩ => ⟨S16384x1, .f32⟩
  | .hbm, ⟨42, _⟩ => ⟨S16384, .f32⟩
  | .local .tc .vmem, ⟨0, _⟩ => ⟨S1x3712x16, .f32⟩
  | .local .tc .vmem, ⟨1, _⟩ => ⟨S1x3712x16, .f32⟩
  | .local .tc .vmem, ⟨2, _⟩ => ⟨S464x128, .f32⟩
  | .local .tc .vmem, ⟨3, _⟩ => ⟨S464x128, .f32⟩
  | .local .tc .vmem, ⟨4, _⟩ => ⟨S2048x13, .f32⟩
  | .local .tc .vmem, ⟨5, _⟩ => ⟨S2048x13, .f32⟩
  | .local .tc .vmem, ⟨6, _⟩ => ⟨S2048x416, .f32⟩
  | .local .tc .vmem, ⟨7, _⟩ => ⟨S2048x416, .f32⟩
  | .local .tc .vmem, ⟨8, _⟩ => ⟨S13x64, .f32⟩
  | .local .tc .vmem, ⟨9, _⟩ => ⟨S416x64, .f32⟩
  | .local .tc .vmem, ⟨10, _⟩ => ⟨S1x64, .f32⟩
  | .local .tc .vmem, ⟨11, _⟩ => ⟨S64x32, .f32⟩
  | .local .tc .vmem, ⟨12, _⟩ => ⟨S1x32, .f32⟩
  | .local .tc .vmem, ⟨13, _⟩ => ⟨S32x1, .f32⟩
  | .local .tc .vmem, ⟨14, _⟩ => ⟨S1x1, .f32⟩
  | .local .tc .vmem, ⟨15, _⟩ => ⟨S2048x1, .f32⟩
  | .local .tc .vmem, ⟨16, _⟩ => ⟨S2048x1, .f32⟩
  | .local .scVector .vmem, ⟨0, _⟩ => ⟨S104x128, .i32⟩
  | .local .scVector .vmem, ⟨1, _⟩ => ⟨S512x128, .f32⟩
  | .local .scVector .vmem, ⟨2, _⟩ => ⟨S64x128, .i32⟩
  | .local .scVector .vmem, ⟨3, _⟩ => ⟨S64x128, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v20_scv : Ref sig .scVector := ⟨.hbm, 33, rfl⟩
abbrev main_v8_scv : Ref sig .scVector := ⟨.hbm, 19, rfl⟩
abbrev main_v19_scv : Ref sig .scVector := ⟨.hbm, 32, rfl⟩
abbrev main_v21_scv : Ref sig .scVector := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg8_0 : Ref sig .tc := ⟨.vmem, 14, rfl⟩
abbrev cc2_stg9_0 : Ref sig .tc := ⟨.vmem, 15, rfl⟩
abbrev cc2_stg9_1 : Ref sig .tc := ⟨.vmem, 16, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem9_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![26, 27], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.muli arg0 c27_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x3712x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S464x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k1_t1_loop : Scf.Loop 32 :=
  let c0_i32_0 : BitVec 32 := 0#32
  let c26_i32 : BitVec 32 := 26#32
  let v2 : BitVec 32 := Scalar.addi c0_i32_0 c26_i32
  let c1_i32 : BitVec 32 := 1#32
  ⟨c0_i32_0, v2, c1_i32⟩
@[reducible] def k1_t2_loop : Scf.Loop 32 :=
  let c0_i32_3 : BitVec 32 := 0#32
  let c4_i32 : BitVec 32 := 4#32
  let v3 : BitVec 32 := Scalar.addi c0_i32_3 c4_i32
  let c1_i32_4 : BitVec 32 := 1#32
  ⟨c0_i32_3, v3, c1_i32_4⟩
def k1_off2 (k1_t2 : Fin k1_t2_loop.trips) : Fin 2 → Nat :=
  let c0_i32_3 : BitVec 32 := 0#32
  let c1_i32_4 : BitVec 32 := 1#32
  let arg13 : BitVec 32 := Scf.iv c0_i32_3 c1_i32_4 k1_t2
  let c128_i32 : BitVec 32 := 128#32
  let v17 : BitVec 32 := Scalar.muli arg13 c128_i32
  let c0_i32_21 : BitVec 32 := 0#32
  ![v17.toNat, 0]
def k1_off3 (k1_t1 : Fin k1_t1_loop.trips) (k1_t2 : Fin k1_t2_loop.trips) : Fin 2 → Nat :=
  let c0_i32_0 : BitVec 32 := 0#32
  let c1_i32 : BitVec 32 := 1#32
  let arg12 : BitVec 32 := Scf.iv c0_i32_0 c1_i32 k1_t1
  let c4_i32_20 : BitVec 32 := 4#32
  let v15 : BitVec 32 := Scalar.muli arg12 c4_i32_20
  let c0_i32_3 : BitVec 32 := 0#32
  let c1_i32_4 : BitVec 32 := 1#32
  let arg13 : BitVec 32 := Scf.iv c0_i32_3 c1_i32_4 k1_t2
  let v16 : BitVec 32 := Scalar.addi v15 arg13
  let c0_i32_22 : BitVec 32 := 0#32
  ![v16.toNat, 0]
def k1_off4 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg12 : BitVec 32 := Scf.iv c0_i32_0 c1_i32 k1_t1
  let c64_i32 : BitVec 32 := 64#32
  let v4 : BitVec 32 := Scalar.muli arg12 c64_i32
  let c0_i32_6 : BitVec 32 := 0#32
  ![v1.toNat, v4.toNat, 0]
@[reducible] def k1_t3_loop : Scf.Loop 32 :=
  let c0_i32_11 : BitVec 32 := 0#32
  let c4_i32_12 : BitVec 32 := 4#32
  let v13 : BitVec 32 := Scalar.addi c0_i32_11 c4_i32_12
  let c1_i32_13 : BitVec 32 := 1#32
  ⟨c0_i32_11, v13, c1_i32_13⟩
def k1_off5 (k1_t3 : Fin k1_t3_loop.trips) : Fin 2 → Nat :=
  let c0_i32_11 : BitVec 32 := 0#32
  let c1_i32_13 : BitVec 32 := 1#32
  let arg13 : BitVec 32 := Scf.iv c0_i32_11 c1_i32_13 k1_t3
  let c128_i32 : BitVec 32 := 128#32
  let v17 : BitVec 32 := Scalar.muli arg13 c128_i32
  let c0_i32_21 : BitVec 32 := 0#32
  ![v17.toNat, 0]
def k1_off6 (k1_t1 : Fin k1_t1_loop.trips) (k1_t3 : Fin k1_t3_loop.trips) : Fin 2 → Nat :=
  let c0_i32_0 : BitVec 32 := 0#32
  let c1_i32 : BitVec 32 := 1#32
  let arg12 : BitVec 32 := Scf.iv c0_i32_0 c1_i32 k1_t1
  let c4_i32_20 : BitVec 32 := 4#32
  let v15 : BitVec 32 := Scalar.muli arg12 c4_i32_20
  let c0_i32_11 : BitVec 32 := 0#32
  let c1_i32_13 : BitVec 32 := 1#32
  let arg13 : BitVec 32 := Scf.iv c0_i32_11 c1_i32_13 k1_t3
  let v16 : BitVec 32 := Scalar.addi v15 arg13
  let c0_i32_22 : BitVec 32 := 0#32
  ![v16.toNat, 0]
@[reducible] def k1_t4_loop : Scf.Loop 32 :=
  let c0_i32_16 : BitVec 32 := 0#32
  let c64_i32_17 : BitVec 32 := 64#32
  let v14 : BitVec 32 := Scalar.addi c0_i32_16 c64_i32_17
  let c1_i32_18 : BitVec 32 := 1#32
  ⟨c0_i32_16, v14, c1_i32_18⟩
def k1_off7 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v17 : Index := Scalar.indexCast arg13
  let c0 : Index := 0#32
  ![v17.toNat, 0]

def k1_chk1 (v18 : IVec S16 32) (v19 : IVec S16 32) : Prop :=
  (∀ a x, ((![v19, v18] : Fin 2 → IVec S16 32) a x).toNat < S512x128.size a)
theorem k1_idx1_inb : ∀ (v18 : IVec S16 32) (v19 : IVec S16 32) (k1_hw1 : k1_chk1 v18 v19), ∀ a x, ((![v19, v18] : Fin 2 → IVec S16 32) a x).toNat < S512x128.size a := fun v18 v19 k1_hw1 => k1_hw1
def k1_off8 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v21 : Index := Scalar.indexCast arg13
  let c0_21 : Index := 0#32
  ![v21.toNat, 0]
def k1_off9 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v25 : Index := Scalar.indexCast arg13
  let c16 : Index := 16#32
  ![v25.toNat, 16]

def k1_chk2 (v26 : IVec S16 32) (v27 : IVec S16 32) : Prop :=
  (∀ a x, ((![v27, v26] : Fin 2 → IVec S16 32) a x).toNat < S512x128.size a)
theorem k1_idx2_inb : ∀ (v26 : IVec S16 32) (v27 : IVec S16 32) (k1_hw2 : k1_chk2 v26 v27), ∀ a x, ((![v27, v26] : Fin 2 → IVec S16 32) a x).toNat < S512x128.size a := fun v26 v27 k1_hw2 => k1_hw2
def k1_off10 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v29 : Index := Scalar.indexCast arg13
  let c16_24 : Index := 16#32
  ![v29.toNat, 16]
def k1_off11 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v33 : Index := Scalar.indexCast arg13
  let c32 : Index := 32#32
  ![v33.toNat, 32]

def k1_chk3 (v34 : IVec S16 32) (v35 : IVec S16 32) : Prop :=
  (∀ a x, ((![v35, v34] : Fin 2 → IVec S16 32) a x).toNat < S512x128.size a)
theorem k1_idx3_inb : ∀ (v34 : IVec S16 32) (v35 : IVec S16 32) (k1_hw3 : k1_chk3 v34 v35), ∀ a x, ((![v35, v34] : Fin 2 → IVec S16 32) a x).toNat < S512x128.size a := fun v34 v35 k1_hw3 => k1_hw3
def k1_off12 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v37 : Index := Scalar.indexCast arg13
  let c32_27 : Index := 32#32
  ![v37.toNat, 32]
def k1_off13 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v41 : Index := Scalar.indexCast arg13
  let c48 : Index := 48#32
  ![v41.toNat, 48]

def k1_chk4 (v42 : IVec S16 32) (v43 : IVec S16 32) : Prop :=
  (∀ a x, ((![v43, v42] : Fin 2 → IVec S16 32) a x).toNat < S512x128.size a)
theorem k1_idx4_inb : ∀ (v42 : IVec S16 32) (v43 : IVec S16 32) (k1_hw4 : k1_chk4 v42 v43), ∀ a x, ((![v43, v42] : Fin 2 → IVec S16 32) a x).toNat < S512x128.size a := fun v42 v43 k1_hw4 => k1_hw4
def k1_off14 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v45 : Index := Scalar.indexCast arg13
  let c48_29 : Index := 48#32
  ![v45.toNat, 48]
def k1_off15 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v49 : Index := Scalar.indexCast arg13
  let c64 : Index := 64#32
  ![v49.toNat, 64]

def k1_chk5 (v50 : IVec S16 32) (v51 : IVec S16 32) : Prop :=
  (∀ a x, ((![v51, v50] : Fin 2 → IVec S16 32) a x).toNat < S512x128.size a)
theorem k1_idx5_inb : ∀ (v50 : IVec S16 32) (v51 : IVec S16 32) (k1_hw5 : k1_chk5 v50 v51), ∀ a x, ((![v51, v50] : Fin 2 → IVec S16 32) a x).toNat < S512x128.size a := fun v50 v51 k1_hw5 => k1_hw5
def k1_off16 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v53 : Index := Scalar.indexCast arg13
  let c64_32 : Index := 64#32
  ![v53.toNat, 64]
def k1_off17 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v57 : Index := Scalar.indexCast arg13
  let c80 : Index := 80#32
  ![v57.toNat, 80]

def k1_chk6 (v58 : IVec S16 32) (v59 : IVec S16 32) : Prop :=
  (∀ a x, ((![v59, v58] : Fin 2 → IVec S16 32) a x).toNat < S512x128.size a)
theorem k1_idx6_inb : ∀ (v58 : IVec S16 32) (v59 : IVec S16 32) (k1_hw6 : k1_chk6 v58 v59), ∀ a x, ((![v59, v58] : Fin 2 → IVec S16 32) a x).toNat < S512x128.size a := fun v58 v59 k1_hw6 => k1_hw6
def k1_off18 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v61 : Index := Scalar.indexCast arg13
  let c80_34 : Index := 80#32
  ![v61.toNat, 80]
def k1_off19 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v65 : Index := Scalar.indexCast arg13
  let c96 : Index := 96#32
  ![v65.toNat, 96]

def k1_chk7 (v66 : IVec S16 32) (v67 : IVec S16 32) : Prop :=
  (∀ a x, ((![v67, v66] : Fin 2 → IVec S16 32) a x).toNat < S512x128.size a)
theorem k1_idx7_inb : ∀ (v66 : IVec S16 32) (v67 : IVec S16 32) (k1_hw7 : k1_chk7 v66 v67), ∀ a x, ((![v67, v66] : Fin 2 → IVec S16 32) a x).toNat < S512x128.size a := fun v66 v67 k1_hw7 => k1_hw7
def k1_off20 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v69 : Index := Scalar.indexCast arg13
  let c96_36 : Index := 96#32
  ![v69.toNat, 96]
def k1_off21 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v73 : Index := Scalar.indexCast arg13
  let c112 : Index := 112#32
  ![v73.toNat, 112]

def k1_chk8 (v74 : IVec S16 32) (v75 : IVec S16 32) : Prop :=
  (∀ a x, ((![v75, v74] : Fin 2 → IVec S16 32) a x).toNat < S512x128.size a)
theorem k1_idx8_inb : ∀ (v74 : IVec S16 32) (v75 : IVec S16 32) (k1_hw8 : k1_chk8 v74 v75), ∀ a x, ((![v75, v74] : Fin 2 → IVec S16 32) a x).toNat < S512x128.size a := fun v74 v75 k1_hw8 => k1_hw8
def k1_off22 (k1_t4 : Fin k1_t4_loop.trips) : Fin 2 → Nat :=
  let c0_i32_16 : BitVec 32 := 0#32
  let c1_i32_18 : BitVec 32 := 1#32
  let arg13 : BitVec 32 := Scf.iv c0_i32_16 c1_i32_18 k1_t4
  let v77 : Index := Scalar.indexCast arg13
  let c112_38 : Index := 112#32
  ![v77.toNat, 112]
def k1_off23 (i : grid1.Coords) (k1_t1 : Fin k1_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c1_i32 : BitVec 32 := 1#32
  let arg12 : BitVec 32 := Scf.iv c0_i32_0 c1_i32 k1_t1
  let c0_i32_20_r1 : BitVec 32 := 0#32
  let c0_i32_21_r1 : BitVec 32 := 0#32
  ![v1.toNat, arg12.toNat, 0, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x13 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x416 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S13x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S416x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x13 : Shape := ⟨2, ![16384, 13]⟩
abbrev S16384x26 : Shape := ⟨2, ![16384, 26]⟩
abbrev S26x100001x16 : Shape := ⟨3, ![26, 100001, 16]⟩
abbrev S429x64 : Shape := ⟨2, ![429, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S26x16384 : Shape := ⟨2, ![26, 16384]⟩
abbrev S26x16384x1 : Shape := ⟨3, ![26, 16384, 1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x1 : Shape := ⟨2, ![16384, 1]⟩
abbrev S1x1 : Shape := ⟨2, ![1, 1]⟩
abbrev S16384 : Shape := ⟨1, ![16384]⟩

abbrev nBuf : Space → Nat
  | .hbm => 55
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100001x16, .f32⟩
  | .hbm, ⟨3, _⟩ => ⟨S429x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S_, .i32⟩
  | .hbm, ⟨10, _⟩ => ⟨S16384x26, .i32⟩
  | .hbm, ⟨11, _⟩ => ⟨S16384x26, .i1⟩
  | .hbm, ⟨12, _⟩ => ⟨S_, .i32⟩
  | .hbm, ⟨13, _⟩ => ⟨S16384x26, .i32⟩
  | .hbm, ⟨14, _⟩ => ⟨S16384x26, .i32⟩
  | .hbm, ⟨15, _⟩ => ⟨S16384x26, .i32⟩
  | .hbm, ⟨16, _⟩ => ⟨S26x16384, .i32⟩
  | .hbm, ⟨17, _⟩ => ⟨S26x16384x1, .i32⟩
  | .hbm, ⟨18, _⟩ => ⟨S1, .i32⟩
  | .hbm, ⟨19, _⟩ => ⟨S_, .i32⟩
  | .hbm, ⟨20, _⟩ => ⟨S26x16384x1, .i32⟩
  | .hbm, ⟨21, _⟩ => ⟨S26x16384x1, .i1⟩
  | .hbm, ⟨22, _⟩ => ⟨S1x1x1, .i32⟩
  | .hbm, ⟨23, _⟩ => ⟨S26x16384x1, .i32⟩
  | .hbm, ⟨24, _⟩ => ⟨S26x16384x1, .i1⟩
  | .hbm, ⟨25, _⟩ => ⟨S26x16384x1, .i1⟩
  | .hbm, ⟨26, _⟩ => ⟨S_, .i1⟩
  | .hbm, ⟨27, _⟩ => ⟨S26x16384, .i1⟩
  | .hbm, ⟨28, _⟩ => ⟨S26x16384x16, .f32⟩
  | .hbm, ⟨29, _⟩ => ⟨S26x16384x16, .i1⟩
  | .hbm, ⟨30, _⟩ => ⟨S_, .f32⟩
  | .hbm, ⟨31, _⟩ => ⟨S26x16384x16, .f32⟩
  | .hbm, ⟨32, _⟩ => ⟨S26x16384x16, .f32⟩
  | .hbm, ⟨33, _⟩ => ⟨S16384x26x16, .f32⟩
  | .hbm, ⟨34, _⟩ => ⟨S16384x416, .f32⟩
  | .hbm, ⟨35, _⟩ => ⟨S16384x429, .f32⟩
  | .hbm, ⟨36, _⟩ => ⟨S16384x64, .f32⟩
  | .hbm, ⟨37, _⟩ => ⟨S1x64, .f32⟩
  | .hbm, ⟨38, _⟩ => ⟨S16384x64, .f32⟩
  | .hbm, ⟨39, _⟩ => ⟨S16384x64, .f32⟩
  | .hbm, ⟨40, _⟩ => ⟨S_, .f32⟩
  | .hbm, ⟨41, _⟩ => ⟨S16384x64, .f32⟩
  | .hbm, ⟨42, _⟩ => ⟨S16384x64, .f32⟩
  | .hbm, ⟨43, _⟩ => ⟨S16384x32, .f32⟩
  | .hbm, ⟨44, _⟩ => ⟨S1x32, .f32⟩
  | .hbm, ⟨45, _⟩ => ⟨S16384x32, .f32⟩
  | .hbm, ⟨46, _⟩ => ⟨S16384x32, .f32⟩
  | .hbm, ⟨47, _⟩ => ⟨S_, .f32⟩
  | .hbm, ⟨48, _⟩ => ⟨S16384x32, .f32⟩
  | .hbm, ⟨49, _⟩ => ⟨S16384x32, .f32⟩
  | .hbm, ⟨50, _⟩ => ⟨S16384x1, .f32⟩
  | .hbm, ⟨51, _⟩ => ⟨S1x1, .f32⟩
  | .hbm, ⟨52, _⟩ => ⟨S16384x1, .f32⟩
  | .hbm, ⟨53, _⟩ => ⟨S16384x1, .f32⟩
  | .hbm, ⟨54, _⟩ => ⟨S16384, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_c_1 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_c_3 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_cst : Ref sig .tc := ⟨.hbm, 30, rfl⟩
abbrev main_call0_v16 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_call1_cst : Ref sig .tc := ⟨.hbm, 40, rfl⟩
abbrev main_call1_v0 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call2_cst : Ref sig .tc := ⟨.hbm, 47, rfl⟩
abbrev main_call2_v0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩

abbrev nD : Nat := 1
abbrev τ : Topo := Topo.v7x

variable {F : FTy → Type} [FloatOps F]
-- ==== Proof.Common.lean ====
/-
  What every module of the kernel's run shares: the program as the launch theorem sees it, the ghost state, the arrays,
  and what each tile of the gather is to write, as a function of the repacked table, the row numbers and the lane numbers.

  A tile is numbered `w = 2 · subcore + core`. In chunk `c` of its 26 chunks it gathers 512 rows of the repacked table
  (`BUF`: row `x` is the table's row named by entry `(4 c + x / 128, x % 128)` of the tile's row numbers), and then picks,
  for every 16-lane group of its output, the lanes the lane numbers name (`OUTV`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

section Setup
variable [FloatOps F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Setup

/-! ## The resource algebra: the handshakes' rounds, the pipelines' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) := (Emb.inl : Emb UP (UP × Counters)).trans embR

local notation "𝕄" => MT nD τ sig (HIx 1) (Elt F) ℕ UU ℕ

instance : (EP (F := F)).LandsIn (upEmb : UEmb _ 𝕄) := by unfold EP; infer_instance

/-! ## The arrays -/

abbrev aLoc (d : Dev nD) (b : Ref sig .tc) : Loc nD τ sig := (SparseCore.T d).loc b
/-- The repacked table, the row numbers, the lane numbers, the gathered rows. -/
abbrev tLoc (d : Dev nD) : Loc nD τ sig := aLoc d main_v20
abbrev gLoc (d : Dev nD) : Loc nD τ sig := aLoc d main_v8
abbrev cLoc (d : Dev nD) : Loc nD τ sig := aLoc d main_v19
abbrev oLoc (d : Dev nD) : Loc nD τ sig := aLoc d main_v21

/-! ## What the tiles compute -/

/-- The index whose coordinates are `v`, each taken within its extent. -/
def ix {s : Shape} (hs : ∀ a, 0 < s.size a) (v : Fin s.rank → ℕ) : s.Idx := fun a => ⟨v a % s.size a, Nat.mod_lt _ (hs a)⟩

theorem ix_val {s : Shape} (hs : ∀ a, 0 < s.size a) (v : Fin s.rank → ℕ) (a : Fin s.rank) (h : v a < s.size a) :
    (ix hs v a).val = v a := Nat.mod_eq_of_lt h

theorem pos_T : ∀ a, 0 < S325728x128.size a := by decide
theorem pos_G : ∀ a, 0 < S32x104x128.size a := by decide
theorem pos_C : ∀ a, 0 < S32x1664x128.size a := by decide
theorem pos_B : ∀ a, 0 < S512x128.size a := by decide
theorem pos_V : ∀ a, 0 < S64x128.size a := by decide
theorem pos_O : ∀ a, 0 < S32x26x64x128.size a := by decide

variable (T : S325728x128.Idx → Elt F .f32) (G : S32x104x128.Idx → Elt F .i32) (C : S32x1664x128.Idx → Elt F .i32)

/-- The 512 rows of the table that tile `w` gathers for its chunk `c`. -/
def BUF (w c : ℕ) : S512x128.Idx → Elt F .f32 := fun x =>
  T (ix pos_T ![(G (ix pos_G ![w, 4 * c + (x 0).val / 128, (x 0).val % 128])).toNat, (x 1).val])

/-- What tile `w` writes out for its chunk `c`: lane `x 1` of row `x 0` is a lane of the gathered row `8 · x 0 + x 1 / 16`. -/
def OUTV (w c : ℕ) : S64x128.Idx → Elt F .f32 := fun x =>
  BUF T G w c (ix pos_B ![(x 0).val * 8 + (x 1).val / 16, (C (ix pos_C ![w, 64 * c + (x 0).val, (x 1).val])).toNat])

/-- The gathered array. -/
def OUT : S32x26x64x128.Idx → Elt F .f32 := fun x =>
  OUTV T G C (x 0).val (x 1).val (ix pos_V ![(x 2).val, (x 3).val])

/-- Chunk `c` of tile `w`'s part of the gathered array. -/
def chunkSet (w c : ℕ) : Finset S32x26x64x128.Idx := Finset.univ.filter fun x => (x 0).val = w ∧ (x 1).val = c

theorem chunkSet_disjoint {w c w' c' : ℕ} (h : w ≠ w' ∨ c ≠ c') : Disjoint (chunkSet w c) (chunkSet w' c') := by
  rw [Finset.disjoint_left]; intro x hx hx'
  simp only [chunkSet, Finset.mem_filter, Finset.mem_univ, true_and] at hx hx'
  omega

/-- Tile `w`'s part of the gathered array. -/
def tileSet (w : ℕ) : Finset S32x26x64x128.Idx := Finset.univ.filter fun x => (x 0).val = w

theorem biUnion_chunkSet (w : ℕ) : (Finset.univ : Finset (Fin 26)).biUnion (fun c => chunkSet w c.val) = tileSet w := by
  ext x
  simp only [chunkSet, tileSet, Finset.mem_biUnion, Finset.mem_filter, Finset.mem_univ, true_and]
  exact ⟨fun ⟨_, h⟩ => h.1, fun h => ⟨x 1, h, rfl⟩⟩

theorem biUnion_tileSet : (Finset.univ : Finset (Fin 32)).biUnion (fun w => tileSet w.val) = Finset.univ := by
  ext x
  simp only [tileSet, Finset.mem_biUnion, Finset.mem_filter, Finset.mem_univ, true_and, iff_true]
  exact ⟨x 0, rfl⟩

theorem tileSet_disjoint {w w' : ℕ} (h : w ≠ w') : Disjoint (tileSet w) (tileSet w') := by
  rw [Finset.disjoint_left]; intro x hx hx'
  simp only [tileSet, Finset.mem_filter, Finset.mem_univ, true_and] at hx hx'
  omega

/-! ## The tiles' numbers and shares -/

/-- The number of the tile on core `c`, subcore `i`. -/
def tw (c i : ℕ) : Fin 32 := ⟨(2 * i + c) % 32, Nat.mod_lt _ (by decide)⟩

theorem tw_val {c i : ℕ} (hc : c < 2) (hi : i < 16) : (tw c i).val = 2 * i + c := Nat.mod_eq_of_lt (by omega)

/-- Tile `w`'s read share of an array every tile reads. -/
abbrev qW (w : Fin 32) : PosShare TreeShare := pieceOf fullShare 32 (by decide) w

end Cert.Proof.K

end
-- ==== Proof.Pay0.lean ====
/-
  The repacked block at an index: row `r`, column `16 · u + l` is number `l` of the block's row `8 · r + u`.
-/
module

public import proofs.«01_k».proof.Proof.Common
public import Idealize.ShloMosaic.Lib.PointwiseCore

@[expose] public section

noncomputable section

namespace Cert.Proof.K

open Cert.KernelIdeal Cert.KernelIdeal.Gen
open Idealize.ShloMosaic

variable {F : FTy → Type} [FloatOps F]

set_option maxRecDepth 16384 in
theorem k0_pay1_at (Y : S1x3712x16.Idx → Elt F .f32) (r : Fin 464) (q : Fin 128) :
    k0_pay1 Y (ix2 r q) = Y (ix3 0 ⟨r.val * 8 + q.val / 16, by omega⟩ ⟨q.val % 16, by omega⟩) := by
  pointwise [k0_pay1]
  have e3 : ∀ (a b : ℕ) (a' b' : ℕ) (ha hb ha' hb'), a = a' → b = b' → Y (ix3 0 ⟨a, ha⟩ ⟨b, hb⟩) = Y (ix3 0 ⟨a', ha'⟩ ⟨b', hb'⟩) := by
    rintro a b _ _ _ _ _ _ rfl rfl; rfl
  split_ifs <;> exact e3 _ _ _ _ _ _ _ _ (by omega) (by omega)

end Cert.Proof.K
-- ==== Proof.GatherBatch.lean ====
/-
  Several indirect gathers outstanding on ONE semaphore.

  The kernel issues four gathers of 128 rows each and only then waits for them. Every row of every gather is one
  transfer of the same credit, so the four gathers together are one counted batch (`Transfers.Batch`) of 512 transfers:
  a gather's issue hands in the issue rights of its own 128 transfers, and gets the credit of its wait.
-/
module

public import Idealize.ShloMosaic.Lib.SparseCore.Stream
public import Idealize.ShloMosaic.Lib.Batch

@[expose] public section

noncomputable section

namespace Cert.Proof.GatherBatch

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {F : FTy → Type} [FloatOps F] {Name : Type} [DecidableEq Name]
variable {U : Type} [URA U] {Lvl : Type} [Preorder Lvl]
variable {Λ : Labels} {defs : Defs nD τ sig (Elt F) Λ} {α : Type}

local notation "𝕄" => MT nD τ sig Ix (Elt F) Name U Lvl

variable (EC : UEmb Counters (MT nD τ sig Ix (Elt F) Name U Lvl))
variable (𝒱 : Variants) (c : Thread nD τ) (bd : Option 𝒱.V) {Q : α → sProp (MT nD τ sig Ix (Elt F) Name U Lvl)}
variable {sp : Space} {s₀ s si : Shape} {a : ℕ} {e : EltTy}

/-- The credit of row `j` of a gather into `dst`. -/
abbrev rowCredit (dst : Memref sig c.2.kind .vmem s e) (hg : s₀.Gathers a s) (j : Fin (s.size hg.axis')) : ℕ :=
  (dst.slice (s.rowRect hg.axis' j) (s.stride_rowRect hg.axis' j)).view.dmaCredit

/-- The place in the offset list of row `j`'s entry. -/
abbrev entryAt {o : ℕ} (hn : si.numel = o) (j : Fin o) : si.Idx := si.rowMajor.symm (j.cast hn.symm)

/-- What row `j` of a gather brings back: the destination's row at the gathered contents, the list's entry, and the
    piece of the source's share the row was lent. -/
def rowBack (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (entryAt hn j)}]{qo} fo))
    ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis') (ho : 0 < s.size hg.axis') (q qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowBack (Name := Name) (U := U) (Lvl := Lvl) c src dst hg offs hn ho q qo fs fd fo hin j) := by
  unfold rowBack; infer_instance

omit [FloatOps F] in
/-- All the rows back: the destination written with the gather's payload, the list and the source whole again. -/
theorem rowBack_join {src : Memref sig c.2.kind sp s₀ e} {dst : Memref sig c.2.kind .vmem s e} {hg : s₀.Gathers a s}
    {offs : Memref sig c.2.kind .vmem si .i32} {hn : si.numel = s.size hg.axis'} (ho : 0 < s.size hg.axis') {q qo : PosShare TreeShare}
    {fs : Buf (Elt F) (src.view.loc c)} {fd : Buf (Elt F) (dst.view.loc c)} {fo : Buf (Elt F) (offs.view.loc c)}
    (hin : ∀ x, (offs.view.read (Elt F) fo x).toNat < s₀.size hg.axis) :
    (bigSep Finset.univ (rowBack c src dst hg offs hn ho q qo fs fd fo hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (entryAt (si := si) hn) := si.rowMajor.symm.bijective.comp (finCongr hn.symm).bijective
  have hrows := pointsTo_rows_write (Ix := Ix) (Name := Name) (U := U) (Lvl := Lvl) c dst.view hg.axis' fd
    (fun j i => src.view.read (Elt F) fs (hg.rowIdx (rows (offs.view.read (Elt F) fo) hn hin j) i))
    (gatherPayload hg (src.view.read (Elt F) fs) (rows (offs.view.read (Elt F) fo) hn hin))
    (fun j i => by unfold gatherPayload; rw [Shape.Gathers.idx_rowRect_emb])
  have hrows' : (bigSep Finset.univ fun j => (dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)) : sProp 𝕄) ⊢ _ := hrows
  unfold rowBack
  iintro H
  ihave H1 := bigSep_sep_out _ _ _ $$ H
  icases H1 with ⟨H2, Hsrc⟩
  ihave H3 := bigSep_sep_out _ _ _ $$ H2
  icases H3 with ⟨Hdst, Hlist⟩
  isplitl [Hdst]
  · iapply hrows' $$ Hdst
  isplitl [Hsrc]
  · iapply (Entails.of_eq (pointsTo_piecesOf src.view.set fs ho q).symm) $$ Hsrc
  · iapply (Entails.of_eq (pointsTo_entries c offs.view (entryAt hn) hen qo fo).symm) $$ Hlist

/-- ONE GATHER OF A BATCH at the head of a program: its rows are the transfers `tt j` of the batch whose invariant is in
    hand, each of credit `N₁`, and what row `j` brings back is what the batch is told of transfer `tt j`. -/
theorem wp_gatherOfBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N N₁ : ℕ) (hN : ∑ j, rowCredit c dst hg j = N) (hN₁ : ∀ j, rowCredit c dst hg j = N₁)
    (ho : 0 < s.size hg.axis') (hin : ∀ x, (offs.view.read (Elt F) fo x).toNat < s₀.size hg.axis)
    {n : ℕ} {D : Fin n → sProp 𝕄} {γ : Fin n → ℕ} {γ₀ : ℕ} {κ : Name} (tt : Fin (s.size hg.axis') → Fin n)
    (hD : ∀ j, rowBack c src dst hg offs hn ho q qo fs fd fo hin j ⊢ D (tt j)) :
    iprop(inv κ (batchBody EC (c, SemLoc.dma sem) N₁ D γ γ₀)
        ∗ (src.view.loc c ↦[src.view.set]{q} fs) ∗ (dst.view.loc c ↦[dst.view.set]{fullShare} fd)
        ∗ (offs.view.loc c ↦[offs.view.set]{qo} fo) ∗ bigSep Finset.univ (fun j => count EC (γ (tt j)) 0))
      ⊢ iprop((cred (tallyAt (c, SemLoc.dma sem) ι N) -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have hen : Function.Bijective (entryAt (si := si) hn) := si.rowMajor.symm.bijective.comp (finCongr hn.symm).bijective
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (entryAt hn j))).map _ = _
    rw [rowOf_of_lt (hin _)]; rfl
  -- one entry of the stream: its list element, and behind it the resources of its row
  have hone : ∀ j, iprop(inv κ (batchBody EC (c, SemLoc.dma sem) N₁ D γ γ₀)
        ∗ (((dst.view.loc c ↦[(dst.view.slice (s.rowRect hg.axis' j)).set]{fullShare} fd) ∗ (offs.view.loc c ↦[{offs.view.emb (entryAt hn j)}]{qo} fo))
          ∗ (src.view.loc c ↦[src.view.set]{pieceOf q _ ho j} fs)) ∗ count EC (γ (tt j)) 0)
      ⊢ iprop(S.heldEntry qo fo j ∗ (S.heldEntry qo fo j -∗ rowRes c (rd j))) := fun j => by
    iintro ⟨#Hinv, ⟨⟨Hd, He⟩, Hs⟩, Hc⟩
    isplitl [He]; · iexact He
    iintro He
    unfold rowRes
    iexists pieceOf q _ ho j, fs, iprop((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)) ∗ S.heldEntry qo fo j)
    isplitl [Hs]; · iexact Hs
    isplitl [Hd He]
    · iapply writeUpdate_frame
      isplitl [Hd]
      · iapply (pointsTo_writeUpdate c (v := dst.view.slice (s.rowRect hg.axis' j)) subset_rfl) $$ Hd
      · iexact He
    · have hcu := batch_creditUpdate EC (g := (c, SemLoc.dma sem)) (N := N₁) (D := D) (γ := γ) (γ₀ := γ₀) (ι := κ) (tt j) (hD j)
      rw [← hN₁ j] at hcu
      iapply hcu
      isplitr
      · rw [hN₁ j]; iexact Hinv
      · iexact Hc
  iintro ⟨#Hinv, Hs, Hd, Ho, Hc⟩ Hk
  ihave Hd' := (Entails.of_eq (pointsTo_rows c dst.view hg.axis' fullShare fd)) $$ Hd
  ihave Ho' := (Entails.of_eq (pointsTo_entries c offs.view (entryAt hn) hen qo fo)) $$ Ho
  ihave Hs' := (Entails.of_eq (pointsTo_piecesOf src.view.set fs ho q)) $$ Hs
  iapply (wp_enqueueIndirectDma 𝒱 c bd Set.univ (qo := qo) (fo := fo) (rd := rd) ι N hA hrd hN) $$ [Hd' Ho' Hs' Hc]
  · unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hc]; · isplitl [H2] <;> iassumption
    iapply (bigSep_mono_pers Finset.univ _ _ _ fun j _ => hone j)
    isplitr; · iexact Hinv
    iexact H3
  · iexact Hk

end Cert.Proof.GatherBatch

end
-- ==== Proof.Tile.lean ====
/-
  One tile's views, and the two loops in which it fires its four gathers and waits for them.

  The four gathers of a chunk are outstanding on one semaphore at once, so their 4 · 128 rows are one counted batch
  (`GatherBatch`): the firing loop hands each gather its quarter of the batch, the draining loop takes the credit of one
  gather per trip, and the rows come back together after the last wait.
-/
module

public import proofs.«01_k».proof.Proof.Common
public import proofs.«01_k».proof.Proof.GatherBatch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type} [FloatOps F]

local notation "𝕄" => MT nD τ sig (HIx 1) (Elt F) ℕ UU ℕ

/-! ## A tile's views -/

abbrev tV : Memref sig .scVector .hbm S325728x128 .f32 := Memref.whole main_v20_scv
abbrev gV : Memref sig .scVector .hbm S32x104x128 .i32 := Memref.whole main_v8_scv
abbrev cV : Memref sig .scVector .hbm S32x1664x128 .i32 := Memref.whole main_v19_scv
abbrev oV : Memref sig .scVector .hbm S32x26x64x128 .f32 := Memref.whole main_v21_scv
/-- The tile's row numbers, gathered rows, lane numbers and output rows, in its own memory. -/
abbrev lV : Memref sig .scVector .vmem S104x128 .i32 := Memref.whole cc1_scratch0
abbrev bV : Memref sig .scVector .vmem S512x128 .f32 := Memref.whole cc1_scratch1
abbrev kV : Memref sig .scVector .vmem S64x128 .i32 := Memref.whole cc1_scratch2
abbrev uV : Memref sig .scVector .vmem S64x128 .f32 := Memref.whole cc1_scratch3

abbrev cC (L : grid1.Coords) : Fin τ.nSC := (L 0).castLE hcore1
abbrev sC (L : grid1.Coords) : Fin τ.nSub := (L 1).castLE hsub1
/-- The tile's thread. -/
abbrev thr (d : Dev nD) (L : grid1.Coords) : Thread nD τ := V d (cC L) (sC L)

abbrev gsem : DmaSem sig := cc1_scratch4.sem
abbrev csem : DmaSem sig := cc1_scratch5.sem

/-- Gather `g` of a chunk: its quarter of the row buffer, its row of the row numbers, and all of the table. -/
abbrev bSl (g : Fin k1_t2_loop.trips) : Memref sig .scVector .vmem S128x128 .f32 :=
  (bV).slice (Rect.unit (s := S512x128) (k1_off2 g) S128x128.size (k1_off2_inb g)) (fun _ => rfl)
abbrev lSl (t : Fin k1_t1_loop.trips) (g : Fin k1_t2_loop.trips) : Memref sig .scVector .vmem S128 .i32 :=
  ((lV).slice (Rect.unit (s := S104x128) (k1_off3 t g) S1x128.size (k1_off3_inb t g)) (fun _ => rfl)).squeeze S128 squeezes_S1x128_S128
abbrev tAll : Memref sig .scVector .hbm S325728x128 .f32 :=
  (tV).slice (Rect.unit (s := S325728x128) ![0, 0] S325728x128.size inb_S325728x128_S325728x128_0_0) (fun _ => rfl)

abbrev fireBody (L : grid1.Coords) (t : Fin k1_t1_loop.trips) :=
  k1_t2_body (F := F) L tV (Memref.isWhole_whole _) gV (Memref.isWhole_whole _) cV (Memref.isWhole_whole _) oV (Memref.isWhole_whole _)
    lV (Memref.isWhole_whole _) bV (Memref.isWhole_whole _) kV (Memref.isWhole_whole _) uV (Memref.isWhole_whole _)
    cc1_scratch4 cc1_scratch5 cc1_scoped0 cc1_scoped1 t
abbrev drainBody (L : grid1.Coords) :=
  k1_t3_body (F := F) L tV (Memref.isWhole_whole _) gV (Memref.isWhole_whole _) cV (Memref.isWhole_whole _) oV (Memref.isWhole_whole _)
    lV (Memref.isWhole_whole _) bV (Memref.isWhole_whole _) kV (Memref.isWhole_whole _) uV (Memref.isWhole_whole _)
    cc1_scratch4 cc1_scratch5 cc1_scoped0 cc1_scoped1

/-! ## The batch of a chunk -/

section Batch
variable (d : Dev nD) (L : grid1.Coords) (t : Fin k1_t1_loop.trips)
variable (qT : PosShare TreeShare) (T : S325728x128.Idx → Elt F .f32) (fb : S512x128.Idx → Elt F .f32) (fo : S104x128.Idx → Elt F .i32)

/-- A share is the four pieces the four gathers are lent. -/
abbrev piece (q : PosShare TreeShare) (g : Fin k1_t2_loop.trips) : PosShare TreeShare := pieceOf q k1_t2_loop.trips (by decide) g

/-- The row numbers gather `g` reads are rows of the table. -/
def InTable (fo : S104x128.Idx → Elt F .i32) : Prop := ∀ x, (fo x).toNat < 325728

theorem inTable_read {fo : S104x128.Idx → Elt F .i32} (h : InTable fo) (g : Fin k1_t2_loop.trips) :
    ∀ x, ((lSl t g).view.read (Elt F) fo x).toNat < S325728x128.size (gathers_S325728x128_S128x128).axis := by
  intro x
  rw [show (lSl t g).view.read (Elt F) fo x = fo ((lSl t g).view.emb x) from (View.read_apply _ _).trans (cast_eq _ _)]
  exact h _

/-- What gather `g` brings back for its row `j`. -/
def back (h : InTable fo) (g : Fin k1_t2_loop.trips) (j : Fin 128) : sProp 𝕄 :=
  rowBack (thr d L) tAll (bSl g) gathers_S325728x128_S128x128 (lSl t g) rfl (by decide) (piece qT g) (piece fullShare g) T fb fo (inTable_read t h g) j

/-- The batch's deliveries, by transfer number. -/
def Dlv (h : InTable fo) (n : Fin (k1_t2_loop.trips * 128)) : sProp 𝕄 :=
  back d L t qT T fb fo h (finProdFinEquiv.symm n).1 (finProdFinEquiv.symm n).2

instance (h : InTable fo) (n : Fin (k1_t2_loop.trips * 128)) : Storable (upEmb : UEmb _ 𝕄) (Dlv d L t qT T fb fo h n) := by
  unfold Dlv back; exact rowBack_storable _ _ _ _ _ _ _ _ _ _ _ _ _ _

/-- What firing gather `g` takes. -/
def fireRes (γ : Fin (k1_t2_loop.trips * 128) → ℕ) (g : Fin k1_t2_loop.trips) : sProp 𝕄 :=
  iprop(((tAll).view.loc (thr d L) ↦[(tAll).view.set]{piece qT g} T) ∗ ((bSl g).view.loc (thr d L) ↦[(bSl g).view.set]{fullShare} fb)
    ∗ ((lSl t g).view.loc (thr d L) ↦[(lSl t g).view.set]{piece fullShare g} fo)
    ∗ bigSep Finset.univ (fun j : Fin 128 => count countersEmb (γ (finProdFinEquiv (g, j))) 0))

/-- The credit of one row of 128 lanes, and of one gather. -/
def N₁ : ℕ := sig.dmaCredit .scVector (Kind.table .scVector .vmem) (bV).view.buf (S128x128.rowShape (gathers_S325728x128_S128x128).axis') .f32

theorem N₁_pos : 0 < N₁ := sig.dmaCredit_pos _ _ _ _ _ (by decide)

theorem credit_row (g : Fin k1_t2_loop.trips) (j : Fin (S128x128.size (gathers_S325728x128_S128x128).axis')) :
    rowCredit (thr d L) (bSl g) gathers_S325728x128_S128x128 j = N₁ := rfl

theorem credit_sum (g : Fin k1_t2_loop.trips) :
    ∑ j, rowCredit (thr d L) (bSl g) gathers_S325728x128_S128x128 j = 128 * N₁ := by
  rw [Finset.sum_congr rfl fun j _ => credit_row d L g j, Finset.sum_const, Finset.card_univ, Fintype.card_fin]; rfl

theorem Dlv_at (h : InTable fo) (g : Fin k1_t2_loop.trips) (j : Fin 128) :
    Dlv d L t qT T fb fo h (finProdFinEquiv (g, j)) = back d L t qT T fb fo h g j := by
  unfold Dlv; rw [Equiv.symm_apply_apply]

theorem fireTrip (h : InTable fo) (γ : Fin (k1_t2_loop.trips * 128) → ℕ) (γ₀ κ : ℕ) (g : Fin k1_t2_loop.trips) (u : Unit) :
    iprop(inv κ (Transfers.batchBody countersEmb (thr d L, SemLoc.dma gsem) N₁ (Dlv d L t qT T fb fo h) γ γ₀) ∗ fireRes d L t qT T fb fo γ g)
      ⊢ wp frame (wpE (defs₀ (F := F)) 𝒱₀ (thr d L) none) Set.univ (fireBody L t g u)
          fun _ => cred (tallyAt (thr d L, SemLoc.dma gsem) (default : HIx 1) (128 * N₁)) := by
  unfold fireRes
  iintro ⟨#Hinv, HT, Hb, Hl, Hc⟩
  unfold fireBody k1_t2_body
  iapply (wp_gatherOfBatch countersEmb 𝒱₀ (thr d L) none (hg := gathers_S325728x128_S128x128) (default : HIx 1) (128 * N₁) N₁
    (credit_sum d L g) (credit_row d L g) (by decide) (inTable_read t h g) (n := k1_t2_loop.trips * 128) (D := Dlv d L t qT T fb fo h) (γ := γ) (γ₀ := γ₀) (κ := κ)
    (fun j => finProdFinEquiv (g, j)) (fun j => Entails.of_eq (Dlv_at d L t qT T fb fo h g j).symm)) $$ [HT Hb Hl Hc]
  · isplitr; · iexact Hinv
    isplitl [HT]; · iexact HT
    isplitl [Hb]; · iexact Hb
    isplitl [Hl]; · iexact Hl
    iexact Hc
  iintro Hcr
  rw [wp_pure]
  imodintro
  iexact Hcr

end Batch

end Cert.Proof.K

end
-- ==== Proof.TileDrain.lean ====
/-
  The firing loop and the draining loop of one chunk, whole: from the table, the row buffer and the row numbers to the row
  buffer holding the table's rows that the row numbers name.
-/
module

public import proofs.«01_k».proof.Proof.Tile
public import Idealize.ShloMosaic.Lib.Pipeline.ValueKit

@[expose] public section

noncomputable section

namespace Cert.Proof.K

open Cert.KernelIdeal Cert.KernelIdeal.Gen

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.GatherBatch

variable {F : FTy → Type} [FloatOps F]

local notation "𝕄" => MT nD τ sig (HIx 1) (Elt F) ℕ UU ℕ

theorem pos_L : ∀ a, 0 < S104x128.size a := by decide

/-- The rows named by the four rows of row numbers of chunk `t`. -/
def BUFL (t : ℕ) (T : S325728x128.Idx → Elt F .f32) (fo : S104x128.Idx → Elt F .i32) : S512x128.Idx → Elt F .f32 := fun x =>
  T (ix pos_T ![(fo (ix pos_L ![4 * t + (x 0).val / 128, (x 0).val % 128])).toNat, (x 1).val])

theorem trips2 : k1_t2_loop.trips = 4 := rfl
theorem trips1 : k1_t1_loop.trips = 26 := rfl

section Views
variable (t : Fin k1_t1_loop.trips) (g : Fin k1_t2_loop.trips)

/-- The elements of gather `g`'s quarter of the row buffer. -/
abbrev bSet (g : Fin k1_t2_loop.trips) : Finset S512x128.Idx := (bSl g).view.set

theorem mem_bSl (x : S512x128.Idx) : x ∈ (bSl g).view.set ↔ 128 * g.val ≤ (x 0).val ∧ (x 0).val < 128 * g.val + 128 := by
  have h1 := (x 1).isLt
  refine ValueKit.mem_set_slice_whole_iff cc1_scratch1 _ x ?_
  rw [Rect.mem_set_unit, k1_off2_eq]
  change (x 1).val < 128 at h1
  refine (Fin.forall_fin_two (p := fun a : Fin 2 => (![128 * g.val, 0] : Fin 2 → ℕ) a ≤ (x a).val ∧ (x a).val < (![128 * g.val, 0] : Fin 2 → ℕ) a + S128x128.size a)).trans ?_
  show (128 * g.val ≤ (x 0).val ∧ (x 0).val < 128 * g.val + 128) ∧ (0 ≤ (x 1).val ∧ (x 1).val < 0 + 128) ↔ _
  omega

theorem bSl_disjoint {g g' : Fin k1_t2_loop.trips} (h : g ≠ g') : Disjoint (bSet g) (bSet g') := by
  rw [Finset.disjoint_left]; intro x hx hx'
  rw [mem_bSl] at hx hx'
  exact h (Fin.ext (by omega))

theorem biUnion_bSl : (Finset.univ : Finset (Fin k1_t2_loop.trips)).biUnion bSet = Finset.univ := by
  ext x
  have h0 : (x 0).val < 512 := (x 0).isLt
  simp only [Finset.mem_biUnion, Finset.mem_univ, true_and, iff_true]
  have hlt : (x 0).val / 128 < k1_t2_loop.trips := by rw [trips2]; omega
  refine ⟨⟨(x 0).val / 128, hlt⟩, (mem_bSl ⟨(x 0).val / 128, hlt⟩ x).2 ?_⟩
  show 128 * ((x 0).val / 128) ≤ (x 0).val ∧ (x 0).val < 128 * ((x 0).val / 128) + 128
  omega

theorem bSl_emb_0 (y : S128x128.Idx) : (((bSl g).view.emb y) 0).val = 128 * g.val + (y 0).val := by
  show ((Rect.unit (s := S512x128) (k1_off2 g) S128x128.size (k1_off2_inb g)).emb y 0).val = _
  rw [Rect.emb_apply]
  show k1_off2 g 0 + 1 * (y 0).val = _
  rw [k1_off2_eq, Nat.one_mul]; rfl

theorem bSl_emb_1 (y : S128x128.Idx) : (((bSl g).view.emb y) 1).val = (y 1).val := by
  show ((Rect.unit (s := S512x128) (k1_off2 g) S128x128.size (k1_off2_inb g)).emb y 1).val = _
  rw [Rect.emb_apply]
  show k1_off2 g 1 + 1 * (y 1).val = _
  rw [k1_off2_eq, Nat.one_mul]; exact Nat.zero_add _

theorem tAll_emb (y : S325728x128.Idx) (a : Fin 2) : (((tAll).view.emb y) a).val = (y a).val := by
  show ((Rect.unit (s := S325728x128) ![0, 0] S325728x128.size inb_S325728x128_S325728x128_0_0).emb y a).val = _
  rw [Rect.emb_apply]
  show (![0, 0] : Fin 2 → ℕ) a + 1 * (y a).val = _
  fin_cases a <;> simp

/-- The one-row index a lane of a squeezed row stands for. -/
theorem unsq_S128 (y : S128.Idx) : Shape.reshapeEquiv squeezes_S1x128_S128.numel_eq y = (fun a => if h : a = 1 then ⟨(y 0).val, by subst h; exact (y 0).isLt⟩ else ⟨0, by fin_cases a <;> simp_all⟩ : S1x128.Idx) := by
  refine Shape.reshapeEquiv_eq_of_rowMajor _ ?_
  rw [Shape.rowMajor_val_two, Shape.rowMajor_val_one]
  simp

theorem lSl_emb_0 (y : S128.Idx) : (((lSl t g).view.emb y) 0).val = 4 * t.val + g.val := by
  show ((Rect.unit (s := S104x128) (k1_off3 t g) S1x128.size (k1_off3_inb t g)).emb (Shape.reshapeEquiv squeezes_S1x128_S128.numel_eq y) 0).val = _
  rw [unsq_S128, Rect.emb_apply]
  show k1_off3 t g 0 + 1 * 0 = _
  rw [k1_off3_eq]; rfl

theorem lSl_emb_1 (y : S128.Idx) : (((lSl t g).view.emb y) 1).val = (y 0).val := by
  show ((Rect.unit (s := S104x128) (k1_off3 t g) S1x128.size (k1_off3_inb t g)).emb (Shape.reshapeEquiv squeezes_S1x128_S128.numel_eq y) 1).val = _
  rw [unsq_S128, Rect.emb_apply]
  show k1_off3 t g 1 + 1 * (y 0).val = _
  rw [k1_off3_eq, Nat.one_mul]; exact Nat.zero_add _

/-- What gather `g` writes into its quarter of the row buffer. -/
theorem gather_value (T : S325728x128.Idx → Elt F .f32) (fb : S512x128.Idx → Elt F .f32) (fo : S104x128.Idx → Elt F .i32) (h : InTable fo)
    (x : S512x128.Idx) (hx : x ∈ (bSl g).view.set) :
    (bSl g).view.write (Elt F) fb (gatherPayload gathers_S325728x128_S128x128 ((tAll).view.read (Elt F) T)
      (rows ((lSl t g).view.read (Elt F) fo) rfl (inTable_read t h g))) Finset.univ x = BUFL t.val T fo x := by
  obtain ⟨y, -, rfl⟩ := Finset.mem_map.mp (show x ∈ Finset.univ.map (bSl g).view.emb from hx)
  rw [View.write_emb_of_mem _ _ (Finset.mem_univ y), cast_eq]
  unfold gatherPayload BUFL
  rw [(View.read_apply _ _).trans (cast_eq _ _)]
  have hg : g.val < 4 := g.isLt
  have ht : t.val < 26 := t.isLt
  have hy0 : (y 0).val < 128 := (y 0).isLt
  have hy1 : (y 1).val < 128 := (y 1).isLt
  congr 1
  have hq : (lSl t g).view.read (Elt F) fo (S128.rowMajor.symm ((y 0).cast rfl)) = fo (ix pos_L ![4 * t.val + ((bSl g).view.emb y 0).val / 128, ((bSl g).view.emb y 0).val % 128]) := by
    rw [(View.read_apply _ _).trans (cast_eq _ _)]
    congr 1
    have hrm : ((S128.rowMajor.symm ((y 0).cast rfl)) 0).val = (y 0).val := by
      have := Shape.rowMajor_val_one (S128.rowMajor.symm ((y 0).cast rfl))
      rw [← this]
      exact congrArg Fin.val (S128.rowMajor.apply_symm_apply _)
    funext a; apply Fin.ext
    fin_cases a
    · refine (lSl_emb_0 t g _).trans ?_
      rw [ix_val]
      · show _ = 4 * t.val + ((bSl g).view.emb y 0).val / 128; rw [bSl_emb_0]; omega
      · show 4 * t.val + ((bSl g).view.emb y 0).val / 128 < 104; rw [bSl_emb_0]; omega
    · refine (lSl_emb_1 t g _).trans ?_
      rw [hrm, ix_val]
      · show _ = ((bSl g).view.emb y 0).val % 128; rw [bSl_emb_0]; omega
      · show ((bSl g).view.emb y 0).val % 128 < 128; exact Nat.mod_lt _ (by decide)
  funext a; apply Fin.ext
  rw [tAll_emb]
  fin_cases a
  · have := congrArg Fin.val (Shape.Gathers.idx_axis gathers_S325728x128_S128x128 (rows ((lSl t g).view.read (Elt F) fo) rfl (inTable_read t h g)) y)
    refine Eq.trans (b := _) this ?_
    rw [ix_val]
    · rw [← hq]; rfl
    · exact h _
  · have := Shape.Gathers.idx_of_ne gathers_S325728x128_S128x128 (rows ((lSl t g).view.read (Elt F) fo) rfl (inTable_read t h g)) y 1 (by decide)
    refine Eq.trans (b := _) this ?_
    rw [ix_val]
    · exact (bSl_emb_1 g y).symm
    · show ((bSl g).view.emb y 1).val < 128; rw [bSl_emb_1]; exact hy1

end Views

section Loops

theorem cred_succ (g : GSem nD τ sig) (k N : ℕ) :
    iprop(cred (tallyAt g (default : HIx 1) (k * N)) ∗ cred (tallyAt g (default : HIx 1) N)) ⊢ (cred (tallyAt g (default : HIx 1) ((k + 1) * N)) : sProp 𝕄) := by
  rw [Nat.succ_mul, ← tallyAt_add]
  exact (cred_add _ _).2

variable (d : Dev nD) (L : grid1.Coords) (t : Fin k1_t1_loop.trips)
variable (qT : PosShare TreeShare) (T : S325728x128.Idx → Elt F .f32) (fb : S512x128.Idx → Elt F .f32) (fo : S104x128.Idx → Elt F .i32)

/-- What of the table and the row numbers the gathers are not lent. -/
def rests : sProp 𝕄 :=
  iprop((bigSep Finset.univ fun g : Fin k1_t2_loop.trips => ((tV).view.loc (thr d L) ↦[Finset.univ \ (tAll).view.set]{piece qT g} T))
    ∗ (bigSep Finset.univ fun g : Fin k1_t2_loop.trips => ((lV).view.loc (thr d L) ↦[Finset.univ \ (lSl t g).view.set]{piece fullShare g} fo)))

theorem split_T : ((tV).view.loc (thr d L) ↦{qT} T : sProp 𝕄)
    = iprop((bigSep Finset.univ fun g : Fin k1_t2_loop.trips => ((tV).view.loc (thr d L) ↦[(tAll).view.set]{piece qT g} T))
      ∗ (bigSep Finset.univ fun g : Fin k1_t2_loop.trips => ((tV).view.loc (thr d L) ↦[Finset.univ \ (tAll).view.set]{piece qT g} T))) := by
  rw [← bigSep_sep', pointsTo_piecesOf (ℓ := (tV).view.loc (thr d L)) Finset.univ T (o := k1_t2_loop.trips) (by decide) qT]
  refine bigSep_congr fun g _ => ?_
  have h := pointsTo_split_subset (Ix := HIx 1) (Name := ℕ) (U := UU) (Lvl := ℕ) (Val := Elt F) (ℓ := (tV).view.loc (thr d L)) (q := piece qT g) (f := T) (Finset.subset_univ (tAll).view.set)
  exact BI.equiv_iff.mp ⟨h.1, h.2⟩

theorem split_l : ((lV).view.loc (thr d L) ↦{fullShare} fo : sProp 𝕄)
    = iprop((bigSep Finset.univ fun g : Fin k1_t2_loop.trips => ((lV).view.loc (thr d L) ↦[(lSl t g).view.set]{piece fullShare g} fo))
      ∗ (bigSep Finset.univ fun g : Fin k1_t2_loop.trips => ((lV).view.loc (thr d L) ↦[Finset.univ \ (lSl t g).view.set]{piece fullShare g} fo))) := by
  rw [← bigSep_sep', pointsTo_piecesOf (ℓ := (lV).view.loc (thr d L)) Finset.univ fo (o := k1_t2_loop.trips) (by decide) fullShare]
  refine bigSep_congr fun g _ => ?_
  have h := pointsTo_split_subset (Ix := HIx 1) (Name := ℕ) (U := UU) (Lvl := ℕ) (Val := Elt F) (ℓ := (lV).view.loc (thr d L)) (q := piece fullShare g) (f := fo) (Finset.subset_univ (lSl t g).view.set)
  exact BI.equiv_iff.mp ⟨h.1, h.2⟩

theorem split_b (f : S512x128.Idx → Elt F .f32) : ((bV).view.loc (thr d L) ↦{fullShare} f : sProp 𝕄)
    = bigSep Finset.univ fun g : Fin k1_t2_loop.trips => ((bV).view.loc (thr d L) ↦[bSet g]{fullShare} f) := by
  have h := pointsTo_biUnion (Ix := HIx 1) (Name := ℕ) (U := UU) (Lvl := ℕ) (ℓ := (bV).view.loc (thr d L)) (q := fullShare) (f := f) (Val := Elt F) (Finset.univ : Finset (Fin k1_t2_loop.trips)) bSet (fun g _ g' _ e => bSl_disjoint e)
  rw [biUnion_bSl] at h
  exact h

/-- The whole firing loop: the batch fully issued, nothing of it waited for. -/
theorem fireAll (h : InTable fo) :
    iprop(((tV).view.loc (thr d L) ↦{qT} T) ∗ ((bV).view.loc (thr d L) ↦{fullShare} fb) ∗ ((lV).view.loc (thr d L) ↦{fullShare} fo)
        ∗ semVal (thr d L, SemLoc.dma gsem) 0)
      ⊢ wp frame (wpE (defs₀ (F := F)) 𝒱₀ (thr d L) none) Set.univ (Scf.Loop.for k1_t2_loop k1_t2_ok ⟨⟩ (fireBody L t))
          fun _ => iprop(Transfers.Batch countersEmb (thr d L) (SemLoc.dma gsem) (default : HIx 1) N₁ (Dlv d L t qT T fb fo h) (k1_t2_loop.trips * 128) 0
            ∗ rests d L t qT T fo) := by
  unfold rests
  rw [split_T d L qT T, split_l d L t fo, split_b d L fb]
  iintro ⟨⟨HT, HTr⟩, Hb, ⟨Hl, Hlr⟩, Hs⟩
  imod (Transfers.batch_alloc' countersEmb (thr d L) (default : HIx 1) N₁ (Dlv d L t qT T fb fo h) (sm := SemLoc.dma gsem) (E := Set.univ)) $$ Hs with HB
  unfold Transfers.Batch
  icases HB with ⟨%γ, %γ₀, %κ, #Hinv, HI, H0, -⟩
  ihave HI' := (Entails.of_eq (show (bigSep (Transfers.pending 0) (fun t : Fin (k1_t2_loop.trips * 128) => count (countersEmb (nD := nD)) (γ t) 0) : sProp 𝕄)
      = bigSep Finset.univ fun g : Fin k1_t2_loop.trips => bigSep Finset.univ fun j : Fin 128 => count countersEmb (γ (finProdFinEquiv (g, j))) 0 from by
    rw [← Transfers.bigSep_pending_zero, bigSep_univ_equiv finProdFinEquiv, bigSep_univ_prod])) $$ HI
  ihave H1 := Transfers.bigSep_sep_in _ _ _ $$ [Hl HI']; · isplitl [Hl] <;> iassumption
  ihave H2 := Transfers.bigSep_sep_in _ _ _ $$ [Hb H1]; · isplitl [Hb] <;> iassumption
  ihave H3 := Transfers.bigSep_sep_in _ _ _ $$ [HT H2]; · isplitl [HT] <;> iassumption
  ihave H4 := (show (bigSep Finset.univ (fun g : Fin k1_t2_loop.trips => iprop(((tV).view.loc (thr d L) ↦[(tAll).view.set]{piece qT g} T)
      ∗ ((bV).view.loc (thr d L) ↦[bSet g]{fullShare} fb) ∗ ((lV).view.loc (thr d L) ↦[(lSl t g).view.set]{piece fullShare g} fo)
      ∗ bigSep Finset.univ (fun j : Fin 128 => count countersEmb (γ (finProdFinEquiv (g, j))) 0))) : sProp 𝕄)
      ⊢ bigSep (Transfers.pending 0) (fireRes d L t qT T fb fo γ) from Entails.of_eq (Transfers.bigSep_pending_zero (fireRes d L t qT T fb fo γ))) $$ H3
  iapply (Scf.wp_for frame (wpE (defs₀ (F := F)) 𝒱₀ (thr d L) none) Set.univ _ _ _ k1_t2_ok ⟨⟩ (fireBody L t)
    (fun k _ => iprop(inv κ (Transfers.batchBody countersEmb (thr d L, SemLoc.dma gsem) N₁ (Dlv d L t qT T fb fo h) γ γ₀)
      ∗ bigSep (Transfers.pending k) (fireRes d L t qT T fb fo γ) ∗ cred (tallyAt (thr d L, SemLoc.dma gsem) (default : HIx 1) (k * (128 * N₁)))))
    (fun k u => by
      iintro ⟨#Hinv, HR, HC⟩
      ihave HR' := (Entails.of_eq (Transfers.bigSep_pending_step (fireRes d L t qT T fb fo γ) k.val k.isLt)) $$ HR
      icases HR' with ⟨Hk, HR⟩
      iapply (wp_wand_r frame (wpE (defs₀ (F := F)) 𝒱₀ (thr d L) none) Set.univ)
      isplitl [Hk]
      · iapply (fireTrip d L t qT T fb fo h γ γ₀ κ k u)
        isplitr; · iexact Hinv
        iexact Hk
      iintro %_ HC'
      isplitr; · iexact Hinv
      isplitl [HR]; · iexact HR
      iapply (cred_succ (thr d L, SemLoc.dma gsem) k.val (128 * N₁))
      isplitl [HC] <;> iassumption))
  isplitl [H4]
  · isplitr; · iexact Hinv
    isplitl [H4]; · iexact H4
    rw [Nat.zero_mul, tallyAt_zero, cred_zero]; iempintro
  iintro %_ ⟨-, -, HC⟩
  isplitr [HTr Hlr]
  · iexists γ, γ₀, κ
    isplitr; · iexact Hinv
    isplitr
    · rw [show (Transfers.pending (k1_t2_loop.trips * 128) : Finset (Fin (k1_t2_loop.trips * 128))) = ∅ from
        Finset.filter_eq_empty_iff.2 fun x _ => Nat.not_le.2 x.isLt, bigSep_empty]
      iempintro
    isplitl [H0]; · iexact H0
    rw [Nat.sub_zero, Nat.mul_assoc]; iexact HC
  · isplitl [HTr] <;> iassumption

/-- What a wait leaves: the debts of the tile unchanged, every new entry of its waits at the kernel's own index. -/
def owesW (O : CellTallies nD τ sig (HIx 1)) (W : Waits sig (HIx 1)) : sProp 𝕄 :=
  iprop(∃ W', ⌜∀ p ∈ W', p ∈ W ∨ p.2 = none⌝ ∗ owes (thr d L) O W')

theorem credit_b (d : Dev nD) (L : grid1.Coords) (g : Fin k1_t3_loop.trips) :
    ((bV).slice (Rect.unit (s := S512x128) (k1_off5 g) S128x128.size (k1_off5_inb g)) (fun _ => rfl)).view.dmaCredit = 128 * N₁ := by
  refine Eq.trans (b := _) ?_ (credit_sum d L ⟨g.val, g.isLt⟩)
  decide +revert

/-- The whole draining loop. -/
theorem drainAll (h : InTable fo) (O : CellTallies nD τ sig (HIx 1)) (W : Waits sig (HIx 1)) :
    iprop(Transfers.Batch countersEmb (thr d L) (SemLoc.dma gsem) (default : HIx 1) N₁ (Dlv d L t qT T fb fo h) (k1_t2_loop.trips * 128) 0
        ∗ Transfers.MayWaits (thr d L) (default : HIx 1) O ∗ owesW d L O W)
      ⊢ wp frame (wpE (defs₀ (F := F)) 𝒱₀ (thr d L) none) Set.univ (Scf.Loop.for k1_t3_loop k1_t3_ok ⟨⟩ (drainBody L))
          fun _ => iprop(Transfers.Batch countersEmb (thr d L) (SemLoc.dma gsem) (default : HIx 1) N₁ (Dlv d L t qT T fb fo h) (k1_t2_loop.trips * 128) (N₁ * (k1_t2_loop.trips * 128))
            ∗ owesW d L O W) := by
  iintro ⟨HB, #Hmw, HO⟩
  iapply (Scf.wp_for frame (wpE (defs₀ (F := F)) 𝒱₀ (thr d L) none) Set.univ _ _ _ k1_t3_ok ⟨⟩ (drainBody L)
    (fun k _ => iprop(Transfers.Batch countersEmb (thr d L) (SemLoc.dma gsem) (default : HIx 1) N₁ (Dlv d L t qT T fb fo h) (k1_t2_loop.trips * 128) (k * (128 * N₁))
      ∗ Transfers.MayWaits (thr d L) (default : HIx 1) O ∗ owesW d L O W))
    (fun k u => by
      unfold owesW
      iintro ⟨HB, #Hmw, ⟨%W', %hW', HO⟩⟩
      unfold drainBody k1_t3_body
      have hk : k.val < 4 := k.isLt
      dsimp only
      iapply (Entails.of_eq (congrArg (fun p => wp frame (wpE (defs₀ (F := F)) 𝒱₀ (thr d L) none) Set.univ p _) (SparseCore.waitIndirectGather_bind (thr d L) _ _ _ _ _ _).symm))
      iapply (Transfers.wp_waitBatchMulO countersEmb 𝒱₀ (thr d L) none (default : HIx 1) 128 (credit_b d L k) (O := O) (W := W')
        (show k.val * (128 * N₁) + 128 * N₁ ≤ N₁ * (k1_t2_loop.trips * 128) by rw [trips2]; nlinarith [N₁_pos])) $$ [HB HO]
      · isplitl [HB]; · iexact HB
        isplitl [HO]; · iexact HO
        iapply (Transfers.MayWaits.elim (SemLoc.dma gsem)) $$ Hmw
      iintro ⟨HB, HO⟩
      rw [wp_pure]
      imodintro
      isplitl [HB]
      · rw [show (k.val + 1) * (128 * N₁) = k.val * (128 * N₁) + 128 * N₁ from Nat.succ_mul _ _]; iexact HB
      isplitr; · iexact Hmw
      iexists _
      isplitr; swap; · iexact HO
      ipureintro; intro p hp
      rcases Finset.mem_insert.mp hp with hp | hp; · exact .inr (hp ▸ rfl)
      exact hW' p hp))
  isplitl [HB HO]
  · isplitl [HB]; · rw [Nat.zero_mul]; iexact HB
    isplitr; · iexact Hmw
    iexact HO
  iintro %_ ⟨HB, -, HO⟩
  isplitl [HB]
  · rw [show N₁ * (k1_t2_loop.trips * 128) = Scf.trips k1_t3_loop.lb k1_t3_loop.ub k1_t3_loop.st * (128 * N₁) from by
      rw [show Scf.trips k1_t3_loop.lb k1_t3_loop.ub k1_t3_loop.st = 4 from rfl, trips2]; ring]
    iexact HB
  iexact HO

/-- The four gathers' rows, all back: the table and the row numbers whole, the row buffer at the gathered rows. -/
theorem collect (h : InTable fo) :
    iprop(Transfers.Batch countersEmb (thr d L) (SemLoc.dma gsem) (default : HIx 1) N₁ (Dlv d L t qT T fb fo h) (k1_t2_loop.trips * 128) (N₁ * (k1_t2_loop.trips * 128))
        ∗ rests d L t qT T fo)
      ⊢ (|={Set.univ}=> iprop(((tV).view.loc (thr d L) ↦{qT} T) ∗ ((bV).view.loc (thr d L) ↦{fullShare} BUFL t.val T fo) ∗ ((lV).view.loc (thr d L) ↦{fullShare} fo)
        ∗ semVal (thr d L, SemLoc.dma gsem) 0) : sProp 𝕄) := by
  have hrow : ∀ g : Fin k1_t2_loop.trips, (bigSep Finset.univ (fun j : Fin 128 => back d L t qT T fb fo h g j) : sProp 𝕄)
      ⊢ iprop(((bV).view.loc (thr d L) ↦[bSet g]{fullShare} BUFL t.val T fo) ∗ ((tV).view.loc (thr d L) ↦[(tAll).view.set]{piece qT g} T)
        ∗ ((lV).view.loc (thr d L) ↦[(lSl t g).view.set]{piece fullShare g} fo)) := fun g => by
    have hj := rowBack_join (Name := ℕ) (U := UU) (Lvl := ℕ) (Ix := HIx 1) (thr d L) (src := tAll) (dst := bSl g) (hg := gathers_S325728x128_S128x128) (offs := lSl t g) (hn := rfl) (by decide) (q := piece qT g)
      (qo := piece fullShare g) (fs := T) (fd := fb) (fo := fo) (inTable_read t h g)
    refine hj.trans ?_
    rw [show (((bSl g).view.loc (thr d L) ↦[(bSl g).view.set]{fullShare} ((bSl g).view.write (Elt F) fb (gatherPayload gathers_S325728x128_S128x128 ((tAll).view.read (Elt F) T)
      (rows ((lSl t g).view.read (Elt F) fo) rfl (inTable_read t h g))) Finset.univ)) : sProp 𝕄) = ((bV).view.loc (thr d L) ↦[bSet g]{fullShare} BUFL t.val T fo)
      from pointsTo_congr fun x hx => gather_value t g T fb fo h x hx]
  have hrows : (bigSep Finset.univ (fun g : Fin k1_t2_loop.trips => bigSep Finset.univ (fun j : Fin 128 => back d L t qT T fb fo h g j)) : sProp 𝕄)
      ⊢ bigSep Finset.univ fun g => iprop(((bV).view.loc (thr d L) ↦[bSet g]{fullShare} BUFL t.val T fo) ∗ ((tV).view.loc (thr d L) ↦[(tAll).view.set]{piece qT g} T)
        ∗ ((lV).view.loc (thr d L) ↦[(lSl t g).view.set]{piece fullShare g} fo)) := bigSep_mono fun g _ => hrow g
  unfold rests
  rw [split_T d L qT T, split_l d L t fo, split_b d L (BUFL t.val T fo)]
  iintro ⟨HB, HTr, Hlr⟩
  imod (Transfers.batch_collect' countersEmb (thr d L) N₁_pos (D := Dlv d L t qT T fb fo h)) $$ HB with ⟨HD, Hs⟩
  ihave HD1 := (Entails.of_eq (show (bigSep Finset.univ (Dlv d L t qT T fb fo h) : sProp 𝕄)
      = bigSep Finset.univ fun g : Fin k1_t2_loop.trips => bigSep Finset.univ fun j : Fin 128 => back d L t qT T fb fo h g j from by
    rw [bigSep_univ_equiv finProdFinEquiv, bigSep_univ_prod]
    exact bigSep_congr fun g _ => bigSep_congr fun j _ => Dlv_at d L t qT T fb fo h g j)) $$ HD
  ihave HD2 := hrows $$ HD1
  ihave HD3 := Transfers.bigSep_sep_out _ _ _ $$ HD2
  icases HD3 with ⟨Hb, HD4⟩
  ihave HD5 := Transfers.bigSep_sep_out _ _ _ $$ HD4
  icases HD5 with ⟨HT, Hl⟩
  imodintro
  isplitl [HT HTr]; · isplitl [HT] <;> iassumption
  isplitl [Hb]; · iexact Hb
  isplitl [Hl Hlr]; · isplitl [Hl] <;> iassumption
  iexact Hs

end Loops

end Cert.Proof.K

end
-- ==== Proof.TileExtract.lean ====
/-
  The loop in which a tile picks its output lanes out of the gathered rows.

  Trip `k` writes output row `k`, in eight groups of sixteen lanes: group `u` takes, from gathered row `8 k + u`, the lanes
  the lane numbers of output row `k` name. The invariant says of the output rows the elements already written.
-/
module

public import proofs.«01_k».proof.Proof.TileDrain

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The picked lanes: element `x` is the lane its lane number names of gathered row `8 · x 0 + x 1 / 16`. -/
def PICK (fk : S64x128.Idx → Elt F .i32) (fb : S512x128.Idx → Elt F .f32) : S64x128.Idx → Elt F .f32 := fun x =>
  fb (ix pos_B ![(x 0).val * 8 + (x 1).val / 16, (fk x).toNat])

/-- The first `n` elements of `g`, row by row, are picked. -/
def Agree (fk : S64x128.Idx → Elt F .i32) (fb : S512x128.Idx → Elt F .f32) (n : ℕ) (g : S64x128.Idx → Elt F .f32) : Prop :=
  ∀ x : S64x128.Idx, 128 * (x 0).val + (x 1).val < n → g x = PICK fk fb x

/-- Sixteen lanes of a row of lane numbers. -/
def lanesRow (fk : S64x128.Idx → Elt F .i32) (k j : ℕ) : S1x16.Idx → Elt F .i32 := fun y => fk (ix pos_V ![k, j + (y 1).val])

theorem pos_16 : ∀ a, 0 < S16.size a := by decide

/-- A row buffer with sixteen of its lanes replaced. -/
def putRow (g : S64x128.Idx → Elt F .f32) (k j : ℕ) (w : S16.Idx → Elt F .f32) : S64x128.Idx → Elt F .f32 := fun x =>
  if (x 0).val = k ∧ j ≤ (x 1).val ∧ (x 1).val < j + 16 then w (ix pos_16 fun _ => (x 1).val - j) else g x

theorem Agree_put {fk : S64x128.Idx → Elt F .i32} {fb : S512x128.Idx → Elt F .f32} {g : S64x128.Idx → Elt F .f32} {k u : ℕ} (hu : u < 8)
    {w : S16.Idx → Elt F .f32} (hg : Agree fk fb (128 * k + 16 * u) g) (hk : k < 64)
    (hw : ∀ x : S16.Idx, w x = fb (ix pos_B ![k * 8 + u, (fk (ix pos_V ![k, 16 * u + (x 0).val])).toNat])) :
    Agree fk fb (128 * k + 16 * (u + 1)) (putRow g k (16 * u) w) := by
  intro x hx
  have h0 : (x 0).val < 64 := (x 0).isLt
  have h1 : (x 1).val < 128 := (x 1).isLt
  unfold putRow
  split
  · rename_i h
    rw [hw]
    unfold PICK
    have e1 : (x 0).val * 8 + (x 1).val / 16 = k * 8 + u := by omega
    have e2 : (ix pos_V ![k, 16 * u + ((x 1).val - 16 * u) % 16] : S64x128.Idx) = x := by
      funext a; apply Fin.ext
      fin_cases a
      · refine (ix_val _ _ _ ?_).trans ?_
        · exact hk
        · exact h.1.symm
      · have e : 16 * u + ((x 1).val - 16 * u) % 16 = (x 1).val := by omega
        refine (ix_val _ _ _ ?_).trans e
        show 16 * u + ((x 1).val - 16 * u) % 16 < 128
        omega
    rw [e1]
    show fb (ix pos_B ![k * 8 + u, (fk (ix pos_V ![k, 16 * u + ((x 1).val - 16 * u) % 16])).toNat]) = _
    rw [e2]
  · rename_i h
    exact hg x (by omega)

theorem lanes_cast (fk : S64x128.Idx → Elt F .i32) (k j : ℕ) (x : S16.Idx) :
    shapeCast S16 (lanesRow fk k j) shapeCasts_S1x16_S16 x = fk (ix pos_V ![k, j + (x 0).val]) := by
  show lanesRow fk k j (Shape.reshapeEquiv _ x) = _
  rw [Shape.reshapeEquiv_eq_of_rowMajor (y := (fun a => if h : a = 1 then ⟨(x 0).val, by subst h; exact (x 0).isLt⟩ else ⟨0, by fin_cases a <;> simp_all⟩ : S1x16.Idx))]
  · rfl
  · rw [Shape.rowMajor_val_two, Shape.rowMajor_val_one]; simp

/-- The row number group `u` of trip `k` reads. -/
theorem row_word (k : Fin k1_t4_loop.trips) (u : Fin 8) :
    (Scalar.addi (Scalar.muli (Scf.iv 0#32 1#32 k.val) 8#32) (BitVec.ofNat 32 u.val)).toNat = k.val * 8 + u.val := by
  have hk : k.val < 64 := k.isLt
  simp only [Scalar.addi, Scalar.muli, IntOp.addi, IntOp.muli, Scf.iv, BitVec.toNat_add, BitVec.toNat_mul, BitVec.toNat_ofNat]
  omega

section Steps
variable (d : Dev nD) (L : grid1.Coords) {α : Type} {Q : α → sProp (MT nD τ sig (HIx 1) (Elt F) ℕ UU ℕ)}

theorem wp_lanes {off : Fin 2 → ℕ} {k j : ℕ} (hoff : off = ![k, j]) (hk : k < 64) (hj : j + 16 ≤ 128) (inb : ∀ a, off a + S1x16.size a ≤ S64x128.size a)
    {hl : (kV).view.LoadsAt (Rect.unit (s := S64x128) off S1x16.size inb).toLoadRect} (fk : S64x128.Idx → Elt F .i32)
    {kk : (S1x16.Idx → Elt F .i32) → Prog (TpuEff nD τ sig (Elt F) Λ₀ (thr d L).2) α} :
    ((kV).view.loc (thr d L) ↦{fullShare} fk)
      ⊢ iprop((((kV).view.loc (thr d L) ↦{fullShare} fk) -∗ wp frame (wpE (defs₀ (F := F)) 𝒱₀ (thr d L) none) Set.univ (kk (lanesRow fk k j)) Q)
        -∗ wp frame (wpE (defs₀ (F := F)) 𝒱₀ (thr d L) none) Set.univ
          (Prog.lift (.load kV (Rect.unit (s := S64x128) off S1x16.size inb).toLoadRect hl) >>= kk) Q) := by
  have h := wp_load (Γ := .empty) (defs := defs₀ (F := F)) 𝒱₀ (thr d L) none Set.univ (Q := Q) (m := kV) (r := (Rect.unit (s := S64x128) off S1x16.size inb).toLoadRect) (hl := hl)
    (k := kk) (S := Finset.univ) (q := fullShare) (f := fk) (Finset.subset_univ _)
  have e : (kV).view.readAt (Elt F) (Rect.unit (s := S64x128) off S1x16.size inb).toLoadRect fk = lanesRow fk k j := by
    funext y
    have hy0 : (y 0).val < 1 := (y 0).isLt
    have hy1 : (y 1).val < 16 := (y 1).isLt
    show fk ((Rect.unit (s := S64x128) off S1x16.size inb).emb y) = fk _
    congr 1
    funext a; apply Fin.ext
    rw [Rect.emb_apply]
    subst hoff
    fin_cases a
    · show k + 1 * (y 0).val = (ix pos_V ![k, j + (y 1).val] 0).val
      rw [ix_val pos_V ![k, j + (y 1).val] 0 (show k < 64 from hk)]
      show k + 1 * (y 0).val = k; omega
    · show j + 1 * (y 1).val = (ix pos_V ![k, j + (y 1).val] 1).val
      rw [ix_val pos_V ![k, j + (y 1).val] 1 (show j + (y 1).val < 128 by omega)]
      show j + 1 * (y 1).val = j + (y 1).val; omega
  rw [e] at h
  exact h

theorem wp_pick {P : Prop} {dec : Decidable P} {w : BitVec 32} {vs : Vec F S16 .i32} (hw : w.toNat < 512) (hvs : ∀ x, (vs x).toNat < 128) (hP : P)
    {hinb : P → ∀ a x, ((![broadcast S16 w, vs] : Fin 2 → IVec S16 32) a x).toNat < S512x128.size a} {hl : (bV).view.Loads} (fb : S512x128.Idx → Elt F .f32)
    {kk : Vec F S16 .f32 → Prog (TpuEff nD τ sig (Elt F) Λ₀ (thr d L).2) α} :
    ((bV).view.loc (thr d L) ↦{fullShare} fb)
      ⊢ iprop((((bV).view.loc (thr d L) ↦{fullShare} fb)
          -∗ wp frame (wpE (defs₀ (F := F)) 𝒱₀ (thr d L) none) Set.univ (kk (fun x => fb (ix pos_B ![w.toNat, (vs x).toNat]))) Q)
        -∗ wp frame (wpE (defs₀ (F := F)) 𝒱₀ (thr d L) none) Set.univ
          (Prog.lift (TpuEff.assume P dec) >>= fun h => SparseCore.vectorLoadIdx bV ![broadcast S16 w, vs] (hinb h.down) hl >>= kk) Q) := by
  have h := SparseCore.wp_vectorLoadIdx (defs := defs₀ (F := F)) 𝒱₀ (thr d L) none Set.univ (Q := Q) (base := bV) (h := hinb hP) (hl := hl) (k := kk)
    (S := Finset.univ) (q := fullShare) (f := fb) (Finset.subset_univ _)
  have e : (loadIdx (((bV).access (.whole S512x128)).read (Elt F) fb) ![broadcast S16 w, vs] (hinb hP) : Vec F S16 .f32)
      = fun x => fb (ix pos_B ![w.toNat, (vs x).toNat]) := by
    funext x
    rw [show ((bV).access (.whole S512x128)).read (Elt F) fb = fb from Memref.read_access_whole (Elt F) cc1_scratch1 fb]
    show fb _ = fb _
    congr 1
    funext a; apply Fin.ext
    fin_cases a
    · exact (ix_val pos_B ![w.toNat, (vs x).toNat] 0 (show w.toNat < 512 from hw)).symm
    · exact (ix_val pos_B ![w.toNat, (vs x).toNat] 1 (show (vs x).toNat < 128 from hvs x)).symm
  rw [e] at h
  exact h.trans (wand_mono_right (wp_assume (Γ := .empty) (defs := defs₀ (F := F)) (Q := Q) 𝒱₀ (thr d L) none Set.univ (d := dec)
    (k := fun h : PLift P => SparseCore.vectorLoadIdx bV ![broadcast S16 w, vs] (hinb h.down) hl >>= kk) hP))

theorem wp_put {off : Fin 2 → ℕ} {k j : ℕ} (hoff : off = ![k, j]) (hk : k < 64) (hj : j + 16 ≤ 128) (inb : ∀ a, off a + S1x16.size a ≤ S64x128.size a)
    {hl : (uV).view.LoadsAt (Rect.unit (s := S64x128) off S1x16.size inb).toLoadRect} (g : S64x128.Idx → Elt F .f32) (w : S16.Idx → Elt F .f32)
    {hx : ((uV).access (Rect.unit (s := S64x128) off S1x16.size inb)).Stores Finset.univ} {hm}
    {kk : PUnit → Prog (TpuEff nD τ sig (Elt F) Λ₀ (thr d L).2) α} :
    ((uV).view.loc (thr d L) ↦{fullShare} g)
      ⊢ iprop((((uV).view.loc (thr d L) ↦{fullShare} putRow g k j w) -∗ wp frame (wpE (defs₀ (F := F)) 𝒱₀ (thr d L) none) Set.univ (kk ⟨⟩) Q)
        -∗ wp frame (wpE (defs₀ (F := F)) 𝒱₀ (thr d L) none) Set.univ
          (Prog.lift (.load uV (Rect.unit (s := S64x128) off S1x16.size inb).toLoadRect hl) >>= fun _ =>
            Prog.lift (.store uV (Rect.unit (s := S64x128) off S1x16.size inb) (shapeCast S1x16 w shapeCasts_S16_S1x16) Finset.univ hx hm) >>= kk) Q) := by
  have e : ((uV).access (Rect.unit (s := S64x128) off S1x16.size inb)).write (Elt F) g (shapeCast S1x16 w shapeCasts_S16_S1x16) Finset.univ = putRow g k j w := by
    subst hoff
    funext x
    unfold putRow
    split
    · rename_i hc
      have hemb : ((uV).access (Rect.unit (s := S64x128) ![k, j] S1x16.size inb)).emb
          (fun a => if h : a = 1 then ⟨(x 1).val - j, by subst h; show (x 1).val - j < 16; omega⟩ else ⟨0, by fin_cases a <;> simp_all⟩ : S1x16.Idx) = x := by
        funext a; apply Fin.ext
        show ((Rect.unit (s := S64x128) ![k, j] S1x16.size inb).emb _ a).val = _
        rw [Rect.emb_apply]
        fin_cases a
        · show k + 1 * 0 = _; exact hc.1.symm
        · show j + 1 * ((x 1).val - j) = (x 1).val; omega
      conv_lhs => rw [← hemb]
      rw [View.write_emb_of_mem _ _ (Finset.mem_univ _), cast_eq]
      show w (Shape.reshapeEquiv _ _) = _
      congr 1
      apply Shape.reshapeEquiv_eq_of_rowMajor
      rw [Shape.rowMajor_val_two, Shape.rowMajor_val_one]
      show ((x 1).val - j) % 16 = 0 * 16 + ((x 1).val - j)
      omega
    · rename_i hc
      refine View.write_of_not_mem _ _ _ fun hmem => hc ?_
      rw [View.setOn_univ] at hmem
      have := (ValueKit.mem_set_slice_whole_iff cc1_scratch3 (Rect.unit (s := S64x128) ![k, j] S1x16.size inb) x Rect.mem_set_unit).1 hmem
      have h0 := this 0
      have h1 := this 1
      change k ≤ (x 0).val ∧ (x 0).val < k + 1 at h0
      change j ≤ (x 1).val ∧ (x 1).val < j + 16 at h1
      omega
  have h2 := wp_store (Γ := .empty) (defs := defs₀ (F := F)) 𝒱₀ (thr d L) none Set.univ (Q := Q) (m := uV) (r := Rect.unit (s := S64x128) off S1x16.size inb)
    (w := shapeCast S1x16 w shapeCasts_S16_S1x16) (Mk := Finset.univ) (hx := hx) (hm := hm) (k := kk) (S := Finset.univ) (f := g) (Finset.subset_univ _)
  rw [e] at h2
  iintro H Hk
  iapply (wp_load (defs := defs₀ (F := F)) 𝒱₀ (thr d L) none Set.univ (Q := Q) (m := uV) (r := (Rect.unit (s := S64x128) off S1x16.size inb).toLoadRect) (hl := hl)
    (S := Finset.univ) (q := fullShare) (f := g) (Finset.subset_univ _)) $$ H
  iintro H
  iapply h2 $$ H
  iexact Hk

end Steps

end Cert.Proof.K

end
-- ==== Proof.TileLoop.lean ====
/-
  The extraction loop of a chunk, run: eight groups of sixteen lanes a trip, sixty-four trips.
-/
module

public import proofs.«01_k».proof.Proof.TileExtract

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Parts
variable (d : Dev nD) (L : grid1.Coords)

abbrev pickBody (L : grid1.Coords) :=
  k1_t4_body (F := F) L tV (Memref.isWhole_whole _) gV (Memref.isWhole_whole _) cV (Memref.isWhole_whole _) oV (Memref.isWhole_whole _)
    lV (Memref.isWhole_whole _) bV (Memref.isWhole_whole _) kV (Memref.isWhole_whole _) uV (Memref.isWhole_whole _) cc1_scratch4 cc1_scratch5 cc1_scoped0 cc1_scoped1

abbrev part1 (L : grid1.Coords) (k : Fin k1_t4_loop.trips) :=
  k1_part1 (F := F) L tV (Memref.isWhole_whole _) gV (Memref.isWhole_whole _) cV (Memref.isWhole_whole _) oV (Memref.isWhole_whole _)
    lV (Memref.isWhole_whole _) bV (Memref.isWhole_whole _) kV (Memref.isWhole_whole _) uV (Memref.isWhole_whole _) cc1_scratch4 cc1_scratch5 cc1_scoped0 cc1_scoped1 0#32 1#32 k

abbrev part2 (L : grid1.Coords) (k : Fin k1_t4_loop.trips) :=
  k1_part2 (F := F) L tV (Memref.isWhole_whole _) gV (Memref.isWhole_whole _) cV (Memref.isWhole_whole _) oV (Memref.isWhole_whole _)
    lV (Memref.isWhole_whole _) bV (Memref.isWhole_whole _) kV (Memref.isWhole_whole _) uV (Memref.isWhole_whole _) cc1_scratch4 cc1_scratch5 cc1_scoped0 cc1_scoped1 k

/-- Group `u` of row `k`, as picked. -/
def grp (fk : S64x128.Idx → Elt F .i32) (fb : S512x128.Idx → Elt F .f32) (k u : ℕ) : S16.Idx → Elt F .f32 :=
  fun x => fb (ix pos_B ![k * 8 + u, (fk (ix pos_V ![k, 16 * u + (x 0).val])).toNat])

theorem lanes_lt {fk : S64x128.Idx → Elt F .i32} (hfk : ∀ x, (fk x).toNat < 128) (k j : ℕ) (x : S16.Idx) :
    (shapeCast S16 (lanesRow fk k j) shapeCasts_S1x16_S16 x).toNat < 128 := by rw [lanes_cast]; exact hfk _

theorem chk_ok {w : BitVec 32} {vs : IVec S16 32} (hw : w.toNat < 512) (hvs : ∀ x, (vs x).toNat < 128) :
    ∀ a x, ((![broadcast S16 w, vs] : Fin 2 → IVec S16 32) a x).toNat < S512x128.size a := by
  intro a x
  fin_cases a
  · exact hw
  · exact hvs x

theorem row_lt (k : Fin k1_t4_loop.trips) (u : Fin 8) :
    (Scalar.addi (Scalar.muli (Scf.iv 0#32 1#32 k.val) 8#32) (BitVec.ofNat 32 u.val)).toNat < 512 := by
  have hk : k.val < 64 := k.isLt
  have hu := u.isLt
  rw [row_word]; omega

theorem grp_eq (fk : S64x128.Idx → Elt F .i32) (fb : S512x128.Idx → Elt F .f32) (k : Fin k1_t4_loop.trips) (u : Fin 8) :
    (fun x : S16.Idx => fb (ix pos_B ![(Scalar.addi (Scalar.muli (Scf.iv 0#32 1#32 k.val) 8#32) (BitVec.ofNat 32 u.val)).toNat,
      (shapeCast S16 (lanesRow fk k.val (16 * u.val)) shapeCasts_S1x16_S16 x).toNat])) = grp fk fb k.val u.val := by
  funext x; rw [row_word, lanes_cast]; rfl

/-- One group's lanes, fetched already, picked. -/
theorem wp_grp₀ {α : Type} {Q : α → sProp 𝕄} (k : Fin k1_t4_loop.trips) (u : Fin 8)
    {P : IVec S16 32 → IVec S16 32 → Prop} {dec : ∀ v w, Decidable (P v w)}
    {hinb : ∀ v w, P v w → ∀ a x, ((![w, v] : Fin 2 → IVec S16 32) a x).toNat < S512x128.size a}
    (hP : ∀ v w, (∀ a x, ((![w, v] : Fin 2 → IVec S16 32) a x).toNat < S512x128.size a) → P v w) {hb : (bV).view.Loads}
    (fk : S64x128.Idx → Elt F .i32) (fb : S512x128.Idx → Elt F .f32) (hfk : ∀ x, (fk x).toNat < 128)
    {kk : Vec F S16 .f32 → Prog (TpuEff nD τ sig (Elt F) Λ₀ (thr d L).2) α} :
    ((bV).view.loc (thr d L) ↦{fullShare} fb)
      ⊢ iprop((((bV).view.loc (thr d L) ↦{fullShare} fb)
          -∗ wp frame (wpE (defs₀ (F := F)) 𝒱₀ (thr d L) none) Set.univ (kk (grp fk fb k.val u.val)) Q)
        -∗ wp frame (wpE (defs₀ (F := F)) 𝒱₀ (thr d L) none) Set.univ
          (Prog.lift (TpuEff.assume (P (shapeCast S16 (lanesRow fk k.val (16 * u.val)) shapeCasts_S1x16_S16)
                (broadcast S16 (Scalar.addi (Scalar.muli (Scf.iv 0#32 1#32 k.val) 8#32) (BitVec.ofNat 32 u.val)))) (dec _ _)) >>= fun h =>
              SparseCore.vectorLoadIdx bV ![broadcast S16 (Scalar.addi (Scalar.muli (Scf.iv 0#32 1#32 k.val) 8#32) (BitVec.ofNat 32 u.val)),
                shapeCast S16 (lanesRow fk k.val (16 * u.val)) shapeCasts_S1x16_S16] (hinb _ _ h.down) hb >>= kk) Q) := by
  have h := wp_pick d L (Q := Q) (P := P (shapeCast S16 (lanesRow fk k.val (16 * u.val)) shapeCasts_S1x16_S16)
                (broadcast S16 (Scalar.addi (Scalar.muli (Scf.iv 0#32 1#32 k.val) 8#32) (BitVec.ofNat 32 u.val)))) (dec := dec _ _) (hinb := hinb _ _) (hl := hb)
    (kk := kk) (row_lt k u) (lanes_lt hfk _ _) (hP _ _ (chk_ok (row_lt k u) (lanes_lt hfk _ _))) fb
  rw [grp_eq fk fb k u] at h
  exact h

/-- One group's lanes fetched and picked. -/
theorem wp_grp {α : Type} {Q : α → sProp 𝕄} (k : Fin k1_t4_loop.trips) (u : Fin 8) {off : Fin 2 → ℕ} (hoff : off = ![k.val, 16 * u.val])
    (inb : ∀ a, off a + S1x16.size a ≤ S64x128.size a)
    {hl : (kV).view.LoadsAt (Rect.unit (s := S64x128) off S1x16.size inb).toLoadRect}
    {P : IVec S16 32 → IVec S16 32 → Prop} {dec : ∀ v w, Decidable (P v w)}
    {hinb : ∀ v w, P v w → ∀ a x, ((![w, v] : Fin 2 → IVec S16 32) a x).toNat < S512x128.size a}
    (hP : ∀ v w, (∀ a x, ((![w, v] : Fin 2 → IVec S16 32) a x).toNat < S512x128.size a) → P v w) {hb : (bV).view.Loads}
    (fk : S64x128.Idx → Elt F .i32) (fb : S512x128.Idx → Elt F .f32) (hfk : ∀ x, (fk x).toNat < 128)
    {kk : Vec F S16 .f32 → Prog (TpuEff nD τ sig (Elt F) Λ₀ (thr d L).2) α} :
    ((kV).view.loc (thr d L) ↦{fullShare} fk)
      ⊢ iprop(((bV).view.loc (thr d L) ↦{fullShare} fb) -∗ (((kV).view.loc (thr d L) ↦{fullShare} fk) -∗ ((bV).view.loc (thr d L) ↦{fullShare} fb)
          -∗ wp frame (wpE (defs₀ (F := F)) 𝒱₀ (thr d L) none) Set.univ (kk (grp fk fb k.val u.val)) Q)
        -∗ wp frame (wpE (defs₀ (F := F)) 𝒱₀ (thr d L) none) Set.univ
          (Prog.lift (.load kV (Rect.unit (s := S64x128) off S1x16.size inb).toLoadRect hl) >>= fun ld =>
            Prog.lift (TpuEff.assume (P (shapeCast S16 ld shapeCasts_S1x16_S16)
                (broadcast S16 (Scalar.addi (Scalar.muli (Scf.iv 0#32 1#32 k.val) 8#32) (BitVec.ofNat 32 u.val)))) (dec _ _)) >>= fun h =>
              SparseCore.vectorLoadIdx bV ![broadcast S16 (Scalar.addi (Scalar.muli (Scf.iv 0#32 1#32 k.val) 8#32) (BitVec.ofNat 32 u.val)),
                shapeCast S16 ld shapeCasts_S1x16_S16] (hinb _ _ h.down) hb >>= kk) Q) := by
  have hk : k.val < 64 := k.isLt
  have hu := u.isLt
  iintro Hk Hb K
  iapply (wp_lanes d L hoff hk (by omega) inb fk) $$ Hk
  iintro Hk
  iapply (wp_grp₀ d L k u (P := P) hP fk fb hfk) $$ Hb
  iintro Hb
  iapply K $$ Hk
  iexact Hb

theorem grp_agree {fk : S64x128.Idx → Elt F .i32} {fb : S512x128.Idx → Elt F .f32} {g : S64x128.Idx → Elt F .f32} (k : Fin k1_t4_loop.trips) {u : ℕ} (hu : u < 8)
    (hg : Agree fk fb (128 * k.val + 16 * u) g) : Agree fk fb (128 * k.val + 16 * (u + 1)) (putRow g k.val (16 * u) (grp fk fb k.val u)) :=
  Agree_put hu hg k.isLt fun _ => rfl

theorem wp_part1 (k : Fin k1_t4_loop.trips) (fk : S64x128.Idx → Elt F .i32) (fb : S512x128.Idx → Elt F .f32) (hfk : ∀ x, (fk x).toNat < 128)
    (g : S64x128.Idx → Elt F .f32) (hg : Agree fk fb (128 * k.val) g) :
    (iprop(((kV).view.loc (thr d L) ↦{fullShare} fk) ∗ ((bV).view.loc (thr d L) ↦{fullShare} fb) ∗ ((uV).view.loc (thr d L) ↦{fullShare} g)) : sProp 𝕄)
      ⊢ wp frame (wpE (defs₀ (F := F)) 𝒱₀ (thr d L) none) Set.univ (part1 (F := F) L k) fun (r : Σ' (_ : BitVec 32), Vec F S16 .f32) =>
        iprop(⌜r = ⟨Scf.iv 0#32 1#32 k.val, grp fk fb k.val 3⟩⌝ ∗ ((kV).view.loc (thr d L) ↦{fullShare} fk) ∗ ((bV).view.loc (thr d L) ↦{fullShare} fb)
          ∗ ∃ g', ⌜Agree fk fb (128 * k.val + 16 * 3) g'⌝ ∗ ((uV).view.loc (thr d L) ↦{fullShare} g')) := by
  have hk : k.val < 64 := k.isLt
  unfold part1
  rw [k1_part1_eq_skeleton]
  unfold k1_part1_skel
  iintro ⟨Hk, Hb, Hu⟩
  iapply (wp_grp d L k 0 (k1_off7_eq k) _ (P := k1_chk1) (fun _ _ h => h) fk fb hfk) $$ Hk Hb
  iintro Hk Hb
  iapply (wp_put d L (k1_off8_eq k) hk (by decide) _ _ (grp fk fb k.val 0)) $$ Hu
  iintro Hu
  iapply (wp_grp d L k 1 (k1_off9_eq k) _ (P := k1_chk2) (fun _ _ h => h) fk fb hfk) $$ Hk Hb
  iintro Hk Hb
  iapply (wp_put d L (k1_off10_eq k) hk (by decide) _ _ (grp fk fb k.val 1)) $$ Hu
  iintro Hu
  iapply (wp_grp d L k 2 (k1_off11_eq k) _ (P := k1_chk3) (fun _ _ h => h) fk fb hfk) $$ Hk Hb
  iintro Hk Hb
  iapply (wp_put d L (k1_off12_eq k) hk (by decide) _ _ (grp fk fb k.val 2)) $$ Hu
  iintro Hu
  iapply (wp_grp d L k 3 (k1_off13_eq k) _ (P := k1_chk4) (fun _ _ h => h) fk fb hfk) $$ Hk Hb
  iintro Hk Hb
  rw [wp_pure]
  imodintro
  isplitl []
  · ipureintro; rfl
  iframe Hk Hb
  iexists _
  isplitl []
  · ipureintro; exact grp_agree k (by decide) (grp_agree k (by decide) (grp_agree k (by decide) hg))
  iexact Hu

theorem wp_part2 (k : Fin k1_t4_loop.trips) (fk : S64x128.Idx → Elt F .i32) (fb : S512x128.Idx → Elt F .f32) (hfk : ∀ x, (fk x).toNat < 128)
    (g : S64x128.Idx → Elt F .f32) (hg : Agree fk fb (128 * k.val + 16 * 3) g) :
    (iprop(((kV).view.loc (thr d L) ↦{fullShare} fk) ∗ ((bV).view.loc (thr d L) ↦{fullShare} fb) ∗ ((uV).view.loc (thr d L) ↦{fullShare} g)) : sProp 𝕄)
      ⊢ wp frame (wpE (defs₀ (F := F)) 𝒱₀ (thr d L) none) Set.univ (part2 (F := F) L k (Scf.iv 0#32 1#32 k.val) (grp fk fb k.val 3)) fun (r : Σ' (_ : BitVec 32), Vec F S1x16 .i32) =>
        iprop(⌜r = ⟨Scalar.addi (Scalar.muli (Scf.iv 0#32 1#32 k.val) 8#32) 7#32, lanesRow fk k.val (16 * 7)⟩⌝
          ∗ ((kV).view.loc (thr d L) ↦{fullShare} fk) ∗ ((bV).view.loc (thr d L) ↦{fullShare} fb)
          ∗ ∃ g', ⌜Agree fk fb (128 * k.val + 16 * 7) g'⌝ ∗ ((uV).view.loc (thr d L) ↦{fullShare} g')) := by
  have hk : k.val < 64 := k.isLt
  unfold part2
  rw [k1_part2_eq_skeleton]
  unfold k1_part2_skel
  iintro ⟨Hk, Hb, Hu⟩
  iapply (wp_put d L (k1_off14_eq k) hk (by decide) _ _ (grp fk fb k.val 3)) $$ Hu
  iintro Hu
  iapply (wp_grp d L k 4 (k1_off15_eq k) _ (P := k1_chk5) (fun _ _ h => h) fk fb hfk) $$ Hk Hb
  iintro Hk Hb
  iapply (wp_put d L (k1_off16_eq k) hk (by decide) _ _ (grp fk fb k.val 4)) $$ Hu
  iintro Hu
  iapply (wp_grp d L k 5 (k1_off17_eq k) _ (P := k1_chk6) (fun _ _ h => h) fk fb hfk) $$ Hk Hb
  iintro Hk Hb
  iapply (wp_put d L (k1_off18_eq k) hk (by decide) _ _ (grp fk fb k.val 5)) $$ Hu
  iintro Hu
  iapply (wp_grp d L k 6 (k1_off19_eq k) _ (P := k1_chk7) (fun _ _ h => h) fk fb hfk) $$ Hk Hb
  iintro Hk Hb
  iapply (wp_put d L (k1_off20_eq k) hk (by decide) _ _ (grp fk fb k.val 6)) $$ Hu
  iintro Hu
  iapply (wp_lanes d L (k1_off21_eq k) hk (by decide) _ fk) $$ Hk
  iintro Hk
  rw [wp_pure]
  imodintro
  isplitl []
  · ipureintro; rfl
  iframe Hk Hb
  iexists _
  isplitl []
  · ipureintro; exact grp_agree k (by decide) (grp_agree k (by decide) (grp_agree k (by decide) (grp_agree k (by decide) hg)))
  iexact Hu

/-- The buffers the extraction works on, `n` elements of the output rows picked. -/
def pickI (fk : S64x128.Idx → Elt F .i32) (fb : S512x128.Idx → Elt F .f32) (n : ℕ) : sProp 𝕄 :=
  iprop(((kV).view.loc (thr d L) ↦{fullShare} fk) ∗ ((bV).view.loc (thr d L) ↦{fullShare} fb)
    ∗ ∃ g, ⌜Agree fk fb n g⌝ ∗ ((uV).view.loc (thr d L) ↦{fullShare} g))

theorem pickTrip (fk : S64x128.Idx → Elt F .i32) (fb : S512x128.Idx → Elt F .f32) (hfk : ∀ x, (fk x).toNat < 128) (k : Fin k1_t4_loop.trips) (u : Unit) :
    (pickI d L fk fb (128 * k.val) : sProp 𝕄)
      ⊢ wp frame (wpE (defs₀ (F := F)) 𝒱₀ (thr d L) none) Set.univ (pickBody (F := F) L k u) fun _ => pickI d L fk fb (128 * (k.val + 1)) := by
  have hk : k.val < 64 := k.isLt
  unfold pickI pickBody k1_t4_body
  iintro ⟨Hk, Hb, ⟨%g, %hg, Hu⟩⟩
  rw [wp_bind]
  iapply (wp_wand_r frame (wpE (defs₀ (F := F)) 𝒱₀ (thr d L) none) Set.univ)
  isplitl [Hk Hb Hu]
  · iapply (wp_part1 d L k fk fb hfk g hg)
    iframe Hk Hb Hu
  iintro %r ⟨%hr, Hk, Hb, ⟨%g1, %hg1, Hu⟩⟩
  subst hr
  dsimp only
  rw [wp_bind]
  iapply (wp_wand_r frame (wpE (defs₀ (F := F)) 𝒱₀ (thr d L) none) Set.univ)
  isplitl [Hk Hb Hu]
  · iapply (wp_part2 d L k fk fb hfk g1 hg1)
    iframe Hk Hb Hu
  iintro %r ⟨%hr, Hk, Hb, ⟨%g2, %hg2, Hu⟩⟩
  subst hr
  dsimp only
  iapply (wp_grp₀ d L k 7 (P := k1_chk8) (fun _ _ h => h) fk fb hfk) $$ Hb
  iintro Hb
  iapply (wp_put d L (k1_off22_eq k) hk (by decide) _ _ (grp fk fb k.val 7)) $$ Hu
  iintro Hu
  rw [wp_pure]
  imodintro
  iframe Hk Hb
  iexists _
  isplitl []
  · ipureintro
    exact (by rw [Nat.mul_add] : 128 * (k.val + 1) = 128 * k.val + 16 * (7 + 1)) ▸ grp_agree k (by decide) hg2
  iexact Hu

theorem pickAll (fk : S64x128.Idx → Elt F .i32) (fb : S512x128.Idx → Elt F .f32) (hfk : ∀ x, (fk x).toNat < 128) :
    (iprop(((kV).view.loc (thr d L) ↦{fullShare} fk) ∗ ((bV).view.loc (thr d L) ↦{fullShare} fb) ∗ ∃ g, ((uV).view.loc (thr d L) ↦{fullShare} g)) : sProp 𝕄)
      ⊢ wp frame (wpE (defs₀ (F := F)) 𝒱₀ (thr d L) none) Set.univ (Scf.Loop.for k1_t4_loop k1_t4_ok ⟨⟩ (pickBody (F := F) L)) fun _ =>
        iprop(((kV).view.loc (thr d L) ↦{fullShare} fk) ∗ ((bV).view.loc (thr d L) ↦{fullShare} fb) ∗ ((uV).view.loc (thr d L) ↦{fullShare} PICK fk fb)) := by
  iintro ⟨Hk, Hb, ⟨%g, Hu⟩⟩
  iapply (Scf.wp_for frame (wpE (defs₀ (F := F)) 𝒱₀ (thr d L) none) Set.univ _ _ _ k1_t4_ok ⟨⟩ (pickBody L)
    (fun k _ => pickI d L fk fb (128 * k)) (fun k u => pickTrip d L fk fb hfk k u))
  isplitl
  · unfold pickI
    iframe Hk Hb
    iexists g
    isplitl []
    · ipureintro; intro x hx; omega
    iexact Hu
  iintro %_ H
  unfold pickI
  icases H with ⟨Hk, Hb, ⟨%g', %hg', Hu⟩⟩
  iframe Hk Hb
  have e : g' = PICK fk fb := by
    funext x
    have h0 : (x 0).val < 64 := (x 0).isLt
    have h1 : (x 1).val < 128 := (x 1).isLt
    exact hg' x (show 128 * (x 0).val + (x 1).val < 128 * 64 by omega)
  rw [e]
  iexact Hu

end Parts

end Cert.Proof.K

end
-- ==== Proof.TileCopy.lean ====
/-
  The three copies of a tile: its row numbers in, a chunk's lane numbers in, a chunk's lanes out.
-/
module

public import proofs.«01_k».proof.Proof.TileLoop

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev gRow (L : grid1.Coords) : Memref sig .scVector .hbm S104x128 .i32 :=
  ((gV).slice (Rect.unit (s := S32x104x128) (k1_off1 L) S1x104x128.size (k1_off1_inb L)) (fun _ => rfl)).squeeze S104x128 squeezes_S1x104x128_S104x128
abbrev cRow (L : grid1.Coords) (t : Fin k1_t1_loop.trips) : Memref sig .scVector .hbm S64x128 .i32 :=
  ((cV).slice (Rect.unit (s := S32x1664x128) (k1_off4 L t) S1x64x128.size (k1_off4_inb L t)) (fun _ => rfl)).squeeze S64x128 squeezes_S1x64x128_S64x128
abbrev oRow (L : grid1.Coords) (t : Fin k1_t1_loop.trips) : Memref sig .scVector .hbm S64x128 .f32 :=
  ((oV).slice (Rect.unit (s := S32x26x64x128) (k1_off23 L t) S1x1x64x128.size (k1_off23_inb L t)) (fun _ => rfl)).squeeze S64x128 squeezes_S1x1x64x128_S64x128

/-- The tile's number. -/
abbrev wL (L : grid1.Coords) : ℕ := 2 * (L 1).val + (L 0).val

theorem wL_lt (L : grid1.Coords) : wL L < 32 := by
  have h0 : (L 0).val < 2 := (L 0).isLt
  have h1 : (L 1).val < 16 := (L 1).isLt
  unfold wL; omega

/-- Tile `w`'s row numbers; the lane numbers of its chunk `t`. -/
def LROW (G : S32x104x128.Idx → Elt F .i32) (w : ℕ) : S104x128.Idx → Elt F .i32 := fun y => G (ix pos_G ![w, (y 0).val, (y 1).val])
def KROW (C : S32x1664x128.Idx → Elt F .i32) (w t : ℕ) : S64x128.Idx → Elt F .i32 := fun y => C (ix pos_C ![w, 64 * t + (y 0).val, (y 1).val])

section Copies
variable (d : Dev nD) (L : grid1.Coords) (t : Fin k1_t1_loop.trips)

theorem gRow_read (G : S32x104x128.Idx → Elt F .i32) : (gRow L).view.read (Elt F) G = LROW G (wL L) := by
  funext y
  rw [(View.read_apply _ _).trans (cast_eq _ _)]
  have hy0 : (y 0).val < 104 := (y 0).isLt
  have hy1 : (y 1).val < 128 := (y 1).isLt
  show G ((Rect.unit (s := S32x104x128) (k1_off1 L) S1x104x128.size (k1_off1_inb L)).emb (Shape.reshapeEquiv squeezes_S1x104x128_S104x128.numel_eq y)) = _
  rw [Shape.reshapeEquiv_eq_of_rowMajor (y := (ix (s := S1x104x128) (by decide) ![0, (y 0).val, (y 1).val]))]
  · unfold LROW
    congr 1
    funext a; apply Fin.ext
    rw [Rect.emb_apply]
    have := k1_off1_eq L
    fin_cases a
    · show k1_off1 L 0 + 1 * (0 % 1) = wL L % 32
      rw [this, Nat.mod_eq_of_lt (wL_lt L)]; rfl
    · show k1_off1 L 1 + 1 * ((y 0).val % 104) = (y 0).val % 104
      rw [this, Nat.one_mul]; exact Nat.zero_add _
    · show k1_off1 L 2 + 1 * ((y 1).val % 128) = (y 1).val % 128
      rw [this, Nat.one_mul]; exact Nat.zero_add _
  · rw [Shape.rowMajor_val_two, Shape.rowMajor_val_three]
    show (0 % 1 * 104 + (y 0).val % 104) * 128 + (y 1).val % 128 = (y 0).val * 128 + (y 1).val
    omega

theorem cRow_read (C : S32x1664x128.Idx → Elt F .i32) : (cRow L t).view.read (Elt F) C = KROW C (wL L) t.val := by
  funext y
  rw [(View.read_apply _ _).trans (cast_eq _ _)]
  have hy0 : (y 0).val < 64 := (y 0).isLt
  have hy1 : (y 1).val < 128 := (y 1).isLt
  have ht : t.val < 26 := t.isLt
  show C ((Rect.unit (s := S32x1664x128) (k1_off4 L t) S1x64x128.size (k1_off4_inb L t)).emb (Shape.reshapeEquiv squeezes_S1x64x128_S64x128.numel_eq y)) = _
  rw [Shape.reshapeEquiv_eq_of_rowMajor (y := (ix (s := S1x64x128) (by decide) ![0, (y 0).val, (y 1).val]))]
  · unfold KROW
    congr 1
    funext a; apply Fin.ext
    rw [Rect.emb_apply]
    have := k1_off4_eq L t
    fin_cases a
    · show k1_off4 L t 0 + 1 * (0 % 1) = wL L % 32
      rw [this, Nat.mod_eq_of_lt (wL_lt L)]; rfl
    · show k1_off4 L t 1 + 1 * ((y 0).val % 64) = (64 * t.val + (y 0).val) % 1664
      rw [this, Nat.one_mul]
      show 64 * t.val + (y 0).val % 64 = _
      omega
    · show k1_off4 L t 2 + 1 * ((y 1).val % 128) = (y 1).val % 128
      rw [this, Nat.one_mul]; exact Nat.zero_add _
  · rw [Shape.rowMajor_val_two, Shape.rowMajor_val_three]
    show (0 % 1 * 64 + (y 0).val % 64) * 128 + (y 1).val % 128 = (y 0).val * 128 + (y 1).val
    omega

theorem oRow_emb (y : S64x128.Idx) : (oRow L t).view.emb y = ix pos_O ![wL L, t.val, (y 0).val, (y 1).val] := by
  have hy0 : (y 0).val < 64 := (y 0).isLt
  have hy1 : (y 1).val < 128 := (y 1).isLt
  have ht : t.val < 26 := t.isLt
  show ((Rect.unit (s := S32x26x64x128) (k1_off23 L t) S1x1x64x128.size (k1_off23_inb L t)).emb (Shape.reshapeEquiv squeezes_S1x1x64x128_S64x128.numel_eq y)) = _
  rw [Shape.reshapeEquiv_eq_of_rowMajor (y := (ix (s := S1x1x64x128) (by decide) ![0, 0, (y 0).val, (y 1).val]))]
  · funext a; apply Fin.ext
    rw [Rect.emb_apply]
    have := k1_off23_eq L t
    fin_cases a
    · show k1_off23 L t 0 + 1 * (0 % 1) = wL L % 32
      rw [this, Nat.mod_eq_of_lt (wL_lt L)]; rfl
    · show k1_off23 L t 1 + 1 * (0 % 1) = t.val % 26
      rw [this, Nat.mod_eq_of_lt ht]; rfl
    · show k1_off23 L t 2 + 1 * ((y 0).val % 64) = (y 0).val % 64
      rw [this, Nat.one_mul]; exact Nat.zero_add _
    · show k1_off23 L t 3 + 1 * ((y 1).val % 128) = (y 1).val % 128
      rw [this, Nat.one_mul]; exact Nat.zero_add _
  · rw [Shape.rowMajor_val_two, Shape.rowMajor_val_four]
    show ((0 % 1 * 1 + 0 % 1) * 64 + (y 0).val % 64) * 128 + (y 1).val % 128 = (y 0).val * 128 + (y 1).val
    omega

/-- The elements of a chunk's part of the result. -/
abbrev oSet : Finset S32x26x64x128.Idx := (oRow L t).view.set

theorem oSet_eq : oSet L t = chunkSet (wL L) t.val := by
  ext x
  have h2 : (x 2).val < 64 := (x 2).isLt
  have h3 : (x 3).val < 128 := (x 3).isLt
  have ht : t.val < 26 := t.isLt
  have hw := wL_lt L
  simp only [chunkSet, Finset.mem_filter, Finset.mem_univ, true_and]
  constructor
  · intro hx
    obtain ⟨y, -, rfl⟩ := Finset.mem_map.mp (show x ∈ Finset.univ.map (oRow L t).view.emb from hx)
    rw [oRow_emb]
    exact ⟨Nat.mod_eq_of_lt hw, Nat.mod_eq_of_lt ht⟩
  · rintro ⟨h0, h1⟩
    refine Finset.mem_map.mpr ⟨ix pos_V ![(x 2).val, (x 3).val], Finset.mem_univ _, ?_⟩
    rw [oRow_emb]
    funext a; apply Fin.ext
    fin_cases a
    · show wL L % 32 = (x 0).val; omega
    · show t.val % 26 = (x 1).val; omega
    · show (x 2).val % 64 % 64 = (x 2).val; omega
    · show (x 3).val % 128 % 128 = (x 3).val; omega

theorem pick_out (T : S325728x128.Idx → Elt F .f32) (G : S32x104x128.Idx → Elt F .i32) (C : S32x1664x128.Idx → Elt F .i32) (hC : ∀ x, (C x).toNat < 128) (X : S32x26x64x128.Idx → Elt F .f32)
    (x : S32x26x64x128.Idx) (hx : x ∈ oSet L t) :
    (oRow L t).view.write (Elt F) X (PICK (KROW C (wL L) t.val) (BUFL t.val T (LROW G (wL L)))) Finset.univ x = OUT T G C x := by
  obtain ⟨y, -, rfl⟩ := Finset.mem_map.mp (show x ∈ Finset.univ.map (oRow L t).view.emb from hx)
  rw [View.write_emb_of_mem _ _ (Finset.mem_univ y), cast_eq, oRow_emb]
  have hy0 : (y 0).val < 64 := (y 0).isLt
  have hy1 : (y 1).val < 128 := (y 1).isLt
  have ht : t.val < 26 := t.isLt
  have hw := wL_lt L
  have e0 : wL L % 32 = wL L := Nat.mod_eq_of_lt hw
  have e1 : t.val % 26 = t.val := Nat.mod_eq_of_lt ht
  have ey : (ix pos_V ![(y 0).val % 64, (y 1).val % 128] : S64x128.Idx) = y := by
    funext a; apply Fin.ext
    fin_cases a
    · show (y 0).val % 64 % 64 = (y 0).val; omega
    · show (y 1).val % 128 % 128 = (y 1).val; omega
  show _ = OUTV T G C (wL L % 32) (t.val % 26) (ix pos_V ![(y 0).val % 64, (y 1).val % 128])
  rw [e0, e1, ey]
  unfold PICK OUTV BUFL BUF KROW LROW
  generalize hrow : (y 0).val * 8 + (y 1).val / 16 = row
  generalize hl : (C (ix pos_C ![wL L, 64 * t.val + (y 0).val, (y 1).val])).toNat = ln
  have hr : row < 512 := by omega
  have e4 : (ix pos_L ![4 * t.val + row % 512 / 128, row % 512 % 128] : S104x128.Idx) = ix pos_L ![4 * t.val + row / 128, row % 128] := by
    rw [Nat.mod_eq_of_lt hr]
  show T (ix pos_T ![(G (ix pos_G ![wL L, (4 * t.val + row % 512 / 128) % 104, row % 512 % 128 % 128])).toNat, ln % 128])
    = T (ix pos_T ![(G (ix pos_G ![wL L, 4 * t.val + row % 512 / 128, row % 512 % 128])).toNat, ln % 128])
  have e5 : (4 * t.val + row % 512 / 128) % 104 = 4 * t.val + row % 512 / 128 := by omega
  have e6 : row % 512 % 128 % 128 = row % 512 % 128 := by omega
  rw [e5, e6]

end Copies

theorem writes_whole_one {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  rw [← View.write_univ_eq_writes_whole, View.writes_nil]

section Wp
variable (d : Dev nD) (L : grid1.Coords) (t : Fin k1_t1_loop.trips) {α : Type} {Q : α → sProp (MT nD τ sig (HIx 1) (Elt F) ℕ UU ℕ)}

theorem copyG (q : PosShare TreeShare) (G : S32x104x128.Idx → Elt F .i32) (fo : S104x128.Idx → Elt F .i32) (O : CellTallies nD τ sig (HIx 1)) (W : Waits sig (HIx 1))
    (kk : PUnit → Prog (TpuEff nD τ sig (Elt F) Λ₀ (thr d L).2) α) {h1 h2 h3 h4 h5} :
    (iprop(((gV).view.loc (thr d L) ↦{q} G) ∗ ((lV).view.loc (thr d L) ↦{fullShare} fo) ∗ semVal (thr d L, SemLoc.dma cc1_scoped0.sem) 0
      ∗ Transfers.MayWaits (thr d L) (default : HIx 1) O ∗ owesW d L O W) : sProp 𝕄)
      ⊢ iprop((((gV).view.loc (thr d L) ↦{q} G) -∗ ((lV).view.loc (thr d L) ↦{fullShare} LROW G (wL L)) -∗ semVal (thr d L, SemLoc.dma cc1_scoped0.sem) 0 -∗ owesW d L O W
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma (gRow L) (.here lV) (.dma cc1_scoped0.sem) h1 h2 h3) >>= fun _ =>
            Prog.lift (.waitDma2 cc1_scoped0.sem (gRow L) lV h4 h5) >>= kk) Q) := by
  unfold owesW
  iintro ⟨Hg, Hl, Hs, #Hmw, ⟨%W', %hW', HO⟩⟩ K
  sl_exec
  iapply K $$ Hg [Hl] [Hs] [HO]
  · iapply (Entails.of_eq (show ((lV).view.loc (thr d L) ↦{fullShare} View.write (Elt F) (lV).view fo (copyG.sl.dma0 L G) Finset.univ : sProp 𝕄)
      = (lV).view.loc (thr d L) ↦{fullShare} LROW G (wL L) by
        rw [View.write_whole_univ]; exact congrArg (fun f => ((lV).view.loc (thr d L) ↦{fullShare} f : sProp 𝕄)) (gRow_read L G))) $$ Hl
  · iexact Hs
  · iexists _
    isplitr; swap; · iexact HO
    ipureintro; intro p hp
    rcases Finset.mem_insert.mp hp with hp | hp; · exact .inr (hp ▸ rfl)
    exact hW' p hp

theorem copyC (q : PosShare TreeShare) (C : S32x1664x128.Idx → Elt F .i32) (fk : S64x128.Idx → Elt F .i32) (O : CellTallies nD τ sig (HIx 1)) (W : Waits sig (HIx 1))
    (kk : PUnit → Prog (TpuEff nD τ sig (Elt F) Λ₀ (thr d L).2) α) {h1 h2 h3 h4 h5} :
    (iprop(((cV).view.loc (thr d L) ↦{q} C) ∗ ((kV).view.loc (thr d L) ↦{fullShare} fk) ∗ semVal (thr d L, SemLoc.dma csem) 0
      ∗ Transfers.MayWaits (thr d L) (default : HIx 1) O ∗ owesW d L O W) : sProp 𝕄)
      ⊢ iprop((((cV).view.loc (thr d L) ↦{q} C) -∗ ((kV).view.loc (thr d L) ↦{fullShare} KROW C (wL L) t.val) -∗ semVal (thr d L, SemLoc.dma csem) 0 -∗ owesW d L O W
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma (cRow L t) (.here kV) (.dma csem) h1 h2 h3) >>= fun _ =>
            Prog.lift (.waitDma2 csem (cRow L t) kV h4 h5) >>= kk) Q) := by
  unfold owesW
  iintro ⟨Hg, Hl, Hs, #Hmw, ⟨%W', %hW', HO⟩⟩ K
  sl_exec
  iapply K $$ Hg [Hl] [Hs] [HO]
  · iapply (Entails.of_eq (show ((kV).view.loc (thr d L) ↦{fullShare} View.write (Elt F) (kV).view fk (copyC.sl.dma0 L t C) Finset.univ : sProp 𝕄)
      = (kV).view.loc (thr d L) ↦{fullShare} KROW C (wL L) t.val by
        rw [View.write_whole_univ]; exact congrArg (fun f => ((kV).view.loc (thr d L) ↦{fullShare} f : sProp 𝕄)) (cRow_read L t C))) $$ Hl
  · iexact Hs
  · iexists _
    isplitr; swap; · iexact HO
    ipureintro; intro p hp
    rcases Finset.mem_insert.mp hp with hp | hp; · exact .inr (hp ▸ rfl)
    exact hW' p hp

theorem copyO (g : S64x128.Idx → Elt F .f32) (X : S32x26x64x128.Idx → Elt F .f32) (O : CellTallies nD τ sig (HIx 1)) (W : Waits sig (HIx 1))
    (kk : PUnit → Prog (TpuEff nD τ sig (Elt F) Λ₀ (thr d L).2) α) {h1 h2 h3 h4 h5} :
    (iprop(((uV).view.loc (thr d L) ↦{fullShare} g) ∗ ((oRow L t).view.loc (thr d L) ↦[(oRow L t).view.set]{fullShare} X) ∗ semVal (thr d L, SemLoc.dma cc1_scoped1.sem) 0
      ∗ Transfers.MayWaits (thr d L) (default : HIx 1) O ∗ owesW d L O W) : sProp 𝕄)
      ⊢ iprop((((uV).view.loc (thr d L) ↦{fullShare} g)
          -∗ ((oRow L t).view.loc (thr d L) ↦[(oRow L t).view.set]{fullShare} (oRow L t).view.write (Elt F) X g Finset.univ)
          -∗ semVal (thr d L, SemLoc.dma cc1_scoped1.sem) 0 -∗ owesW d L O W
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma uV (.here (oRow L t)) (.dma cc1_scoped1.sem) h1 h2 h3) >>= fun _ =>
            Prog.lift (.waitDma2 cc1_scoped1.sem uV (oRow L t) h4 h5) >>= kk) Q) := by
  unfold owesW
  iintro ⟨Hg, Hl, Hs, #Hmw, ⟨%W', %hW', HO⟩⟩ K
  sl_exec
  iapply K $$ Hg [Hl] [Hs] [HO]
  · rw [← writes_whole_one]
    iexact Hl
  · iexact Hs
  · iexists _
    isplitr; swap; · iexact HO
    ipureintro; intro p hp
    rcases Finset.mem_insert.mp hp with hp | hp; · exact .inr (hp ▸ rfl)
    exact hW' p hp

end Wp

end Cert.Proof.K

end
-- ==== Proof.TileBody.lean ====
/-
  A tile's task, run: its row numbers fetched, then the twenty-six chunks.
-/
module

public import proofs.«01_k».proof.Proof.TileCopy

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Chunks
variable (d : Dev nD) (L : grid1.Coords) (q : PosShare TreeShare)
variable (T : S325728x128.Idx → Elt F .f32) (G : S32x104x128.Idx → Elt F .i32) (C : S32x1664x128.Idx → Elt F .i32) (X : S32x26x64x128.Idx → Elt F .f32)
variable (O : CellTallies nD τ sig (HIx 1)) (W : Waits sig (HIx 1))

abbrev chunkBody (L : grid1.Coords) :=
  k1_t1_body (F := F) L tV (Memref.isWhole_whole _) gV (Memref.isWhole_whole _) cV (Memref.isWhole_whole _) oV (Memref.isWhole_whole _)
    lV (Memref.isWhole_whole _) bV (Memref.isWhole_whole _) kV (Memref.isWhole_whole _) uV (Memref.isWhole_whole _) cc1_scratch4 cc1_scratch5 cc1_scoped0 cc1_scoped1

/-- Chunk `t`'s part of the result when `k` chunks are done. -/
def oPart (k : ℕ) (t : Fin k1_t1_loop.trips) : sProp 𝕄 :=
  (oRow L t).view.loc (thr d L) ↦[oSet L t]{fullShare} (if t.val < k then OUT T G C else X)

/-- A tile's state between two chunks. -/
def chunkI (k : ℕ) : sProp 𝕄 :=
  iprop(((tV).view.loc (thr d L) ↦{q} T) ∗ ((cV).view.loc (thr d L) ↦{q} C) ∗ ((lV).view.loc (thr d L) ↦{fullShare} LROW G (wL L))
    ∗ (∃ fb, ((bV).view.loc (thr d L) ↦{fullShare} fb)) ∗ (∃ fk, ((kV).view.loc (thr d L) ↦{fullShare} fk)) ∗ (∃ g, ((uV).view.loc (thr d L) ↦{fullShare} g))
    ∗ semVal (thr d L, SemLoc.dma gsem) 0 ∗ semVal (thr d L, SemLoc.dma csem) 0 ∗ semVal (thr d L, SemLoc.dma cc1_scoped1.sem) 0
    ∗ Transfers.MayWaits (thr d L) (default : HIx 1) O ∗ owesW d L O W
    ∗ bigSep Finset.univ (oPart d L T G C X k))

theorem oPart_step (t : Fin k1_t1_loop.trips) :
    (bigSep (Finset.univ.erase t) (oPart d L T G C X t.val) : sProp 𝕄) = bigSep (Finset.univ.erase t) (oPart d L T G C X (t.val + 1)) := by
  refine bigSep_congr fun u hu => ?_
  have hne : u.val ≠ t.val := fun h => (Finset.mem_erase.1 hu).1 (Fin.ext h)
  unfold oPart
  by_cases h : u.val < t.val
  · rw [if_pos h, if_pos (by omega)]
  · rw [if_neg h, if_neg (by omega)]

theorem chunkTrip (hG : InTable (LROW G (wL L))) (hC : ∀ x, (C x).toNat < 128) (t : Fin k1_t1_loop.trips) (u : Unit) :
    (chunkI d L q T G C X O W t.val : sProp 𝕄)
      ⊢ wp frame (wpE (defs₀ (F := F)) 𝒱₀ (thr d L) none) Set.univ (chunkBody (F := F) L t u) fun _ => chunkI d L q T G C X O W (t.val + 1) := by
  unfold chunkI chunkBody k1_t1_body
  iintro ⟨HT, HC, Hl, ⟨%fb, Hb⟩, ⟨%fk, Hk⟩, ⟨%g, Hu⟩, Hgs, Hcs, Hos, #Hmw, HO, Hout⟩
  dsimp only
  rw [wp_bind]
  iapply (wp_wand_r frame (wpE (defs₀ (F := F)) 𝒱₀ (thr d L) none) Set.univ)
  isplitl [HT Hb Hl Hgs]
  · iapply (fireAll d L t q T fb (LROW G (wL L)) hG)
    iframe HT Hb Hl Hgs
  iintro %_ ⟨HB, HR⟩
  iapply (copyC d L t q C fk O W) $$ [HC Hk Hcs HO]
  · iframe HC Hk Hcs HO
    iexact Hmw
  iintro HC Hk Hcs HO
  rw [wp_bind]
  iapply (wp_wand_r frame (wpE (defs₀ (F := F)) 𝒱₀ (thr d L) none) Set.univ)
  isplitl [HB HO]
  · iapply (drainAll d L t q T fb (LROW G (wL L)) hG O W)
    iframe HB HO
    iexact Hmw
  iintro %_ ⟨HB, HO⟩
  imod (collect d L t q T fb (LROW G (wL L)) hG) $$ [HB HR] with HX
  · iframe HB HR
  icases HX with ⟨HT, Hb, Hl, Hgs⟩
  rw [wp_bind]
  iapply (wp_wand_r frame (wpE (defs₀ (F := F)) 𝒱₀ (thr d L) none) Set.univ)
  isplitl [Hk Hb Hu]
  · iapply (pickAll d L (KROW C (wL L) t.val) (BUFL t.val T (LROW G (wL L))) (fun x => hC _))
    iframe Hk Hb
    iexists g; iexact Hu
  iintro %_ ⟨Hk, Hb, Hu⟩
  ihave Ho := (Entails.of_eq (SparseCore.bigSep_erase' (Φ := oPart d L T G C X t.val) (Finset.mem_univ t))) $$ Hout
  icases Ho with ⟨Ho, Hout⟩
  have e0 : (oPart d L T G C X t.val t : sProp 𝕄) = ((oRow L t).view.loc (thr d L) ↦[oSet L t]{fullShare} X) := by
    unfold oPart; rw [if_neg (Nat.lt_irrefl _)]
  have e1 : (oPart d L T G C X (t.val + 1) t : sProp 𝕄)
      = ((oRow L t).view.loc (thr d L) ↦[oSet L t]{fullShare} (oRow L t).view.write (Elt F) X (PICK (KROW C (wL L) t.val) (BUFL t.val T (LROW G (wL L)))) Finset.univ) := by
    unfold oPart; rw [if_pos (Nat.lt_succ_self _)]
    exact (pointsTo_congr fun x hx => pick_out L t T G C hC X x hx).symm
  ihave Ho := (Entails.of_eq e0) $$ Ho
  iapply (copyO d L t _ X O W) $$ [Hu Ho Hos HO]
  · iframe Hu Ho Hos HO
    iexact Hmw
  iintro Hu Ho Hos HO
  rw [wp_pure]
  imodintro
  iframe HT HC Hl Hgs Hcs Hos HO
  isplitl [Hb]; · iexists _; iexact Hb
  isplitl [Hk]; · iexists _; iexact Hk
  isplitl [Hu]; · iexists _; iexact Hu
  isplitr; · iexact Hmw
  rw [SparseCore.bigSep_erase' (Φ := oPart d L T G C X (t.val + 1)) (Finset.mem_univ t), e1, ← oPart_step]
  iframe Ho Hout

end Chunks

/-! ## What a tile owns -/

section Own
variable (d : Dev nD) (L : grid1.Coords)

abbrev cell4 (d : Dev nD) (L : grid1.Coords) : GSem nD τ sig := (thr d L, .dma cc1_scratch4.sem)
abbrev cell5 (d : Dev nD) (L : grid1.Coords) : GSem nD τ sig := (thr d L, .dma cc1_scratch5.sem)
abbrev cell6 (d : Dev nD) (L : grid1.Coords) : GSem nD τ sig := (thr d L, .dma cc1_scoped0.sem)
abbrev cell7 (d : Dev nD) (L : grid1.Coords) : GSem nD τ sig := (thr d L, .dma cc1_scoped1.sem)

abbrev restCells (d : Dev nD) (L : grid1.Coords) : Finset (GSem nD τ sig) :=
  ((((ownCells (thr d L)).erase (cell4 d L)).erase (cell5 d L)).erase (cell6 d L)).erase (cell7 d L)

theorem ownSems0_V :
    (ownSems0 (thr d L) : sProp 𝕄)
      = iprop(semVal (cell4 d L) 0 ∗ semVal (cell5 d L) 0 ∗ semVal (cell6 d L) 0 ∗ semVal (cell7 d L) 0
          ∗ bigSep (restCells d L) fun g => semVal g 0) := by
  have m4 : cell4 d L ∈ ownCells (thr d L) := mem_ownCells.mpr ⟨rfl, by show (SemLoc.dma cc1_scratch4.sem : SemLoc sig).isScoped .scVector = true; decide⟩
  have m5 : cell5 d L ∈ ownCells (thr d L) := mem_ownCells.mpr ⟨rfl, by show (SemLoc.dma cc1_scratch5.sem : SemLoc sig).isScoped .scVector = true; decide⟩
  have m6 : cell6 d L ∈ ownCells (thr d L) := mem_ownCells.mpr ⟨rfl, by show (SemLoc.dma cc1_scoped0.sem : SemLoc sig).isScoped .scVector = true; decide⟩
  have m7 : cell7 d L ∈ ownCells (thr d L) := mem_ownCells.mpr ⟨rfl, by show (SemLoc.dma cc1_scoped1.sem : SemLoc sig).isScoped .scVector = true; decide⟩
  have ne : ∀ {a b : DmaSem sig}, a ≠ b → ((thr d L, SemLoc.dma a) : GSem nD τ sig) ≠ (thr d L, SemLoc.dma b) := fun h e => h (by injection e with _ e; injection e)
  have n54 := ne (show (cc1_scratch5.sem : DmaSem sig) ≠ cc1_scratch4.sem by decide)
  have n64 := ne (show (cc1_scoped0.sem : DmaSem sig) ≠ cc1_scratch4.sem by decide)
  have n65 := ne (show (cc1_scoped0.sem : DmaSem sig) ≠ cc1_scratch5.sem by decide)
  have n74 := ne (show (cc1_scoped1.sem : DmaSem sig) ≠ cc1_scratch4.sem by decide)
  have n75 := ne (show (cc1_scoped1.sem : DmaSem sig) ≠ cc1_scratch5.sem by decide)
  have n76 := ne (show (cc1_scoped1.sem : DmaSem sig) ≠ cc1_scoped0.sem by decide)
  unfold SparseCore.Cfg.ownSems0
  rw [SparseCore.bigSep_erase' m4, SparseCore.bigSep_erase' (Finset.mem_erase.mpr ⟨n54, m5⟩),
    SparseCore.bigSep_erase' (Finset.mem_erase.mpr ⟨n65, Finset.mem_erase.mpr ⟨n64, m6⟩⟩),
    SparseCore.bigSep_erase' (Finset.mem_erase.mpr ⟨n76, Finset.mem_erase.mpr ⟨n75, Finset.mem_erase.mpr ⟨n74, m7⟩⟩⟩)]

abbrev pV (L : grid1.Coords) : Proc τ := .scVector (cC L) (sC L)

abbrev restRefs (L : grid1.Coords) : Finset (DevRef τ sig) :=
  ((((ownRefs (τ := τ) (pV L)).erase ((pV L).devRef cc1_scratch0)).erase ((pV L).devRef cc1_scratch1)).erase ((pV L).devRef cc1_scratch2)).erase ((pV L).devRef cc1_scratch3)

theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (restRefs L) fun b => iprop(∃ f, ((d, b) : Loc nD τ sig) ↦{fullShare} f)) := by
  have m0 := SparseCore.Cfg.mem_ownRefs_of_owner (p := pV L) (b := (pV L).devRef cc1_scratch0) rfl
  have m1 := SparseCore.Cfg.mem_ownRefs_of_owner (p := pV L) (b := (pV L).devRef cc1_scratch1) rfl
  have m2 := SparseCore.Cfg.mem_ownRefs_of_owner (p := pV L) (b := (pV L).devRef cc1_scratch2) rfl
  have m3 := SparseCore.Cfg.mem_ownRefs_of_owner (p := pV L) (b := (pV L).devRef cc1_scratch3) rfl
  have ne : ∀ {a b : Ref sig .scVector}, a ≠ b → (pV L).devRef a ≠ (pV L).devRef b := fun h e => h (Proc.devRef_injective _ e)
  have n10 := ne (show (cc1_scratch1 : Ref sig .scVector) ≠ cc1_scratch0 by decide)
  have n20 := ne (show (cc1_scratch2 : Ref sig .scVector) ≠ cc1_scratch0 by decide)
  have n21 := ne (show (cc1_scratch2 : Ref sig .scVector) ≠ cc1_scratch1 by decide)
  have n30 := ne (show (cc1_scratch3 : Ref sig .scVector) ≠ cc1_scratch0 by decide)
  have n31 := ne (show (cc1_scratch3 : Ref sig .scVector) ≠ cc1_scratch1 by decide)
  have n32 := ne (show (cc1_scratch3 : Ref sig .scVector) ≠ cc1_scratch2 by decide)
  unfold SparseCore.Cfg.ownBufs
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

end Own

/-! ## The task -/

section Task
variable (d : Dev nD) (L : grid1.Coords)
variable (T : S325728x128.Idx → Elt F .f32) (G : S32x104x128.Idx → Elt F .i32) (C : S32x1664x128.Idx → Elt F .i32) (X : S32x26x64x128.Idx → Elt F .f32)

/-- What tile `w` is handed: a share of the table and of both number arrays, and its own part of the result. -/
def goRes (d : Dev nD) (w : Fin 32) : sProp 𝕄 :=
  iprop((tLoc d ↦{qW w} T) ∗ (gLoc d ↦{qW w} G) ∗ (cLoc d ↦{qW w} C)
    ∗ bigSep Finset.univ fun c : Fin 26 => (oLoc d ↦[chunkSet w.val c.val]{fullShare} X))

/-- What it hands back: its part of the result, written. -/
def doneRes (R : S32x26x64x128.Idx → Elt F .f32) (d : Dev nD) (w : Fin 32) : sProp 𝕄 :=
  bigSep Finset.univ fun c : Fin 26 => (oLoc d ↦[chunkSet w.val c.val]{fullShare} R)

theorem parts_start (w : Fin 32) (hw : w.val = wL L) :
    (bigSep Finset.univ fun c : Fin 26 => (oLoc d ↦[chunkSet w.val c.val]{fullShare} X) : sProp 𝕄) = bigSep Finset.univ (oPart d L T G C X 0) := by
  refine bigSep_congr (Φ := fun c : Fin 26 => (oLoc d ↦[chunkSet w.val c.val]{fullShare} X : sProp 𝕄)) fun c _ => ?_
  unfold oPart
  rw [if_neg (Nat.not_lt_zero _), hw, ← oSet_eq L c]

theorem parts_end (w : Fin 32) (hw : w.val = wL L) :
    (bigSep Finset.univ (oPart d L T G C X k1_t1_loop.trips) : sProp 𝕄) = doneRes (OUT T G C) d w := by
  unfold doneRes
  refine bigSep_congr (Ψ := fun c : Fin k1_t1_loop.trips => (oLoc d ↦[chunkSet w.val c.val]{fullShare} OUT T G C : sProp 𝕄)) fun c _ => ?_
  unfold oPart
  rw [if_pos c.isLt, hw, ← oSet_eq L c]

set_option maxHeartbeats 1000000 in
/-- The task on tile `w`. -/
theorem tile_body (hF : (K (F := F)).Facts) (w : Fin 32) (hw : w.val = wL L) (hG : ∀ x, (G x).toNat < 325728) (hC : ∀ x, (C x).toNat < 128)
    (O : CellTallies nD τ sig (HIx 1)) (W : Waits sig (HIx 1)) (hO : ∀ g, O g none = 0) :
    iprop(levAts (K (F := F)).L (K (F := F)).lev ∗ emp ∗ goRes T G C X d w
        ∗ scopedBufs (thr d L) ∗ scopedSems0 (thr d L) ∗ owes (thr d L) O W)
      ⊢ wp frame (wpE (defs₀ (F := F)) 𝒱₀ (thr d L) none) Set.univ
          (cc1_gather_kernel (F := F) L tV (Memref.isWhole_whole _) gV (Memref.isWhole_whole _) cV (Memref.isWhole_whole _) oV (Memref.isWhole_whole _)
            lV (Memref.isWhole_whole _) bV (Memref.isWhole_whole _) kV (Memref.isWhole_whole _) uV (Memref.isWhole_whole _) cc1_scratch4 cc1_scratch5 cc1_scoped0 cc1_scoped1)
          fun _ => iprop(doneRes (OUT T G C) d w
            ∗ scopedBufs (thr d L) ∗ scopedSems0 (thr d L)
            ∗ ∃ W', ⌜∀ p ∈ W', p ∈ W ∨ p.2 = none⌝ ∗ owes (thr d L) O W') := by
  rw [cc1_gather_kernel_eq_skeleton]; unfold cc1_gather_kernel_skel
  rw [(K (F := F)).scopedBufs_V hF d (cC L) (sC L), SparseCore.Cfg.scopedSems0_V (Val := Elt F) d (cC L) (sC L), ownSems0_V, ownBufs_V]
  unfold goRes
  iintro ⟨#Hlv, -, ⟨HT, HG, HC, Hx⟩, ⟨⟨%f0, H0⟩, H1, H2, H3, Hbufs⟩, ⟨S4, S5, S6, S7, Hsems⟩, HO⟩
  ihave #Hmw := (show levAts (K (F := F)).L (K (F := F)).lev ⊢ Transfers.MayWaits (thr d L) (default : HIx 1) O from
    (K (F := F)).mayWaits_none (thr := thr d L) hO) $$ Hlv
  ihave Hx := (Entails.of_eq (parts_start d L T G C X w hw)) $$ Hx
  dsimp only
  iapply (copyG d L (qW w) G f0 O W) $$ [HG H0 S6 HO]
  · isplitl [HG]; · iexact HG
    isplitl [H0]; · iexact H0
    isplitl [S6]; · iexact S6
    isplitr; · iexact Hmw
    unfold owesW
    iexists W
    isplitr; · ipureintro; exact fun p hp => .inl hp
    iexact HO
  iintro HG H0 S6 HO
  rw [wp_bind]
  iapply (Scf.wp_for frame (wpE (defs₀ (F := F)) 𝒱₀ (thr d L) none) Set.univ _ _ _ k1_t1_ok ⟨⟩ (chunkBody L)
    (fun k _ => chunkI d L (qW w) T G C X O W k) (fun k u => chunkTrip d L (qW w) T G C X O W (fun x => hG _) hC k u))
  isplitl [HT HC H0 H1 H2 H3 S4 S5 S7 HO Hx]
  · unfold chunkI
    isplitl [HT]; · iexact HT
    isplitl [HC]; · iexact HC
    isplitl [H0]; · iexact H0
    isplitl [H1]; · iexact H1
    isplitl [H2]; · iexact H2
    isplitl [H3]; · iexact H3
    isplitl [S4]; · iexact S4
    isplitl [S5]; · iexact S5
    isplitl [S7]; · iexact S7
    isplitr; · iexact Hmw
    isplitl [HO]; · iexact HO
    iexact Hx
  iintro %_ H
  rw [wp_pure]
  imodintro
  unfold chunkI owesW
  icases H with ⟨-, -, H0, H1, H2, H3, S4, S5, S7, -, HO, Hx⟩
  isplitl [Hx]
  · iapply (Entails.of_eq (parts_end d L T G C X w hw)); iexact Hx
  isplitl [H0 H1 H2 H3 Hbufs]
  · isplitl [H0]; · iexists _; iexact H0
    isplitl [H1]; · iexact H1
    isplitl [H2]; · iexact H2
    isplitl [H3]; · iexact H3
    iexact Hbufs
  isplitl [S4 S5 S6 S7 Hsems]
  · isplitl [S4]; · iexact S4
    isplitl [S5]; · iexact S5
    isplitl [S6]; · iexact S6
    isplitl [S7]; · iexact S7
    iexact Hsems
  iexact HO

end Task

end Cert.Proof.K

end
-- ==== Proof.Tasks.lean ====
/-
  What the handshakes of the SparseCore call carry, and the tasks' obligation.

  A tile is handed shares of the table and of the two number arrays, and its own part of the result; it hands back its
  part of the result. Of the table only a relation is known: every element the tiles pick is as it should be.
-/
module

public import proofs.«01_k».proof.Proof.TileBody

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The call's values: the two number arrays, the result's contents before and after, what is known of the table. -/
structure Vals (F : FTy → Type) [FloatOps F] where
  G : Dev nD → S32x104x128.Idx → Elt F .i32
  C : Dev nD → S32x1664x128.Idx → Elt F .i32
  X : Dev nD → S32x26x64x128.Idx → Elt F .f32
  R : Dev nD → S32x26x64x128.Idx → Elt F .f32
  TR : Dev nD → (S325728x128.Idx → Elt F .f32) → Prop
  hG : ∀ d x, (G d x).toNat < 325728
  hC : ∀ d x, (C d x).toNat < 128
  hR : ∀ d T, TR d T → OUT T (G d) (C d) = R d

variable (v : Vals F)

def goP (d : Dev nD) (w : Fin 32) : sProp 𝕄 := iprop(∃ T, ⌜v.TR d T⌝ ∗ goRes T (v.G d) (v.C d) (v.X d) d w)
def doneP (d : Dev nD) (w : Fin 32) : sProp 𝕄 := doneRes (v.R d) d w

instance (d : Dev nD) (w : Fin 32) : BI.Storable (upEmb : UEmb _ 𝕄) (goP v d w) := by unfold goP goRes; infer_instance
instance (d : Dev nD) (w : Fin 32) : BI.Storable (upEmb : UEmb _ 𝕄) (doneP v d w) := by unfold doneP doneRes; infer_instance

def P : (K (F := F)).Pay (nD := nD) (Val := Elt F) (Name := ℕ) (U := UU) where
  st := fun q d c => match q with | 0 => bigSep Finset.univ fun i : Fin ((K (F := F)).nSub 0) => goP v d (tw c.val i.val)
  dn := fun q d c => match q with | 0 => bigSep Finset.univ fun i : Fin ((K (F := F)).nSub 0) => doneP v d (tw c.val i.val)
  go := fun q d c i => match q with | 0 => goP v d (tw c.val i.val)
  td := fun q d c i => match q with | 0 => doneP v d (tw c.val i.val)
  x := fun _ _ => iprop(emp)

instance P_storable : (P v).IsStorable where
  st q d c := match q with
    | 0 => (inferInstance : BI.Storable (upEmb : UEmb _ 𝕄) (bigSep Finset.univ fun i : Fin ((K (F := F)).nSub 0) => goP v d (tw c.val i.val)))
  dn q d c := match q with
    | 0 => (inferInstance : BI.Storable (upEmb : UEmb _ 𝕄) (bigSep Finset.univ fun i : Fin ((K (F := F)).nSub 0) => doneP v d (tw c.val i.val)))
  go q d c i := match q with
    | 0 => (inferInstance : BI.Storable (upEmb : UEmb _ 𝕄) (goP v d (tw c.val i.val)))
  td q d c i := match q with
    | 0 => (inferInstance : BI.Storable (upEmb : UEmb _ 𝕄) (doneP v d (tw c.val i.val)))

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) gV (Memref.isWhole_whole _) cV (Memref.isWhole_whole _) oV (Memref.isWhole_whole _)
            lV (Memref.isWhole_whole _) bV (Memref.isWhole_whole _) kV (Memref.isWhole_whole _) uV (Memref.isWhole_whole _) cc1_scratch4 cc1_scratch5 cc1_scoped0 cc1_scoped1) ⟨⟩ c s := rfl

theorem obl_post {thr : Thread nD τ} {A A' B C : sProp 𝕄} (hA : A ⊢ A') {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P v) v₀ 0 := by
  intro d c i O W hO _ _
  simp only [show (P v).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : (tw c.val i.val).val = wL (coordsV ⟨_, hci.1⟩ ⟨_, hci.2⟩) := tw_val c.isLt i.isLt
  show iprop(levAts (K (F := F)).L (K (F := F)).lev ∗ emp ∗ goP v d (tw c.val i.val) ∗ _ ∗ _ ∗ _) ⊢ _
  unfold goP
  iintro ⟨Hlv, He, ⟨%T, %hT, Hgo⟩, Hb, Hs, HO⟩
  have h := (tile_body d (coordsV ⟨_, hci.1⟩ ⟨_, hci.2⟩) T (v.G d) (v.C d) (v.X d) hF (tw c.val i.val) hw (v.hG d) (v.hC d) O W hO).trans
    (wp_mono frame _ _ fun _ => obl_post (q := 0) (show doneRes (OUT T (v.G d) (v.C d)) d (tw c.val i.val) ⊢ doneP v d (tw c.val i.val) by
      rw [v.hR d T hT]; exact BI.Entails.refl _))
  iapply h
  iframe Hlv Hgo Hb Hs HO

theorem vecSplit : (K (F := F)).VecSplit' (P v) 0 := by
  intro d c
  show (bigSep Finset.univ fun i : Fin ((K (F := F)).nSub 0) => goP v d (tw c.val i.val)) ⊢ |={Set.univ}=> iprop(
      (bigSep Finset.univ fun i : Fin ((K (F := F)).nSub 0) => goP v d (tw c.val i.val))
      ∗ ((bigSep Finset.univ fun i : Fin ((K (F := F)).nSub 0) => doneP v d (tw c.val i.val))
          -∗ (bigSep Finset.univ fun i : Fin ((K (F := F)).nSub 0) => doneP v d (tw c.val i.val))))
  iintro H; imodintro
  isplitl [H]; · iexact H
  iintro H; iexact H

end Cert.Proof.K
-- ==== Proof.Split.lean ====
/-
  The gather call's operands, dealt to the tiles, and its result, joined from theirs.
-/
module

public import proofs.«01_k».proof.Proof.Tasks

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (v : Vals F)

/-- A family over the tiles, by SparseCore and by subcore. -/
theorem bigSep_tiles (Φ : Fin 32 → sProp (MT nD τ sig (HIx 1) (Elt F) ℕ UU ℕ)) :
    (bigSep Finset.univ fun c : Fin 2 => bigSep Finset.univ fun i : Fin 16 => Φ (tw c.val i.val)) = bigSep Finset.univ Φ := by
  rw [show (Finset.univ : Finset (Fin 32)) = (Finset.univ ×ˢ Finset.univ : Finset (Fin 2 × Fin 16)).image fun p => tw p.1.val p.2.val from by decide,
    SparseCore.bigSep_image_of_injOn (fun a _ b _ h => by
      have h' := congrArg Fin.val h
      try dsimp only at h'
      rw [tw_val a.1.isLt a.2.isLt, tw_val b.1.isLt b.2.isLt] at h'
      have h1 := a.1.isLt; have h2 := b.1.isLt
      exact Prod.ext (Fin.ext (by omega)) (Fin.ext (by omega))) _,
    SparseCore.bigSep_product]

/-- The result's buffer, by tile and by chunk. -/
theorem out_chunks (d : Dev nD) (X : S32x26x64x128.Idx → Elt F .f32) :
    (oLoc d ↦{fullShare} X : sProp 𝕄) = bigSep Finset.univ fun w : Fin 32 => bigSep Finset.univ fun c : Fin 26 => oLoc d ↦[chunkSet w.val c.val]{fullShare} X := by
  have e : (oLoc d ↦{fullShare} X : sProp 𝕄) = bigSep Finset.univ fun w : Fin 32 => oLoc d ↦[tileSet w.val]{fullShare} X := by
    rw [← pointsTo_biUnion Finset.univ (ℓ := oLoc d) (fun w : Fin 32 => tileSet w.val) (fun i _ j _ h => tileSet_disjoint fun e => h (Fin.ext e)),
      biUnion_tileSet]; try rfl
  rw [e]
  exact bigSep_congr fun w _ => by
    rw [← pointsTo_biUnion Finset.univ (ℓ := oLoc d) (fun c : Fin 26 => chunkSet w.val c.val) (fun i _ j _ h => chunkSet_disjoint (.inr fun e => h (Fin.ext e))),
      biUnion_chunkSet]

theorem st_intro (d : Dev nD) (T : S325728x128.Idx → Elt F .f32) (hT : v.TR d T) :
    (iprop((tLoc d ↦{fullShare} T) ∗ (gLoc d ↦{fullShare} v.G d) ∗ (cLoc d ↦{fullShare} v.C d) ∗ (oLoc d ↦{fullShare} v.X d)) : sProp 𝕄)
      ⊢ bigSep Finset.univ fun c : Fin ((K (F := F)).nCore 0) => (P v).st 0 d c := by
  show _ ⊢ bigSep Finset.univ fun c : Fin 2 => bigSep Finset.univ fun i : Fin 16 => goP v d (tw c.val i.val)
  rw [bigSep_tiles (fun w => goP v d w), out_chunks,
    pointsTo_piecesOf (ℓ := tLoc d) Finset.univ T (o := 32) (by decide) fullShare,
    pointsTo_piecesOf (ℓ := gLoc d) Finset.univ (v.G d) (o := 32) (by decide) fullShare,
    pointsTo_piecesOf (ℓ := cLoc d) Finset.univ (v.C d) (o := 32) (by decide) fullShare,
    ← bigSep_sep', ← bigSep_sep', ← bigSep_sep']
  have one (w : Fin 32) : (iprop((tLoc d ↦{qW w} T) ∗ (gLoc d ↦{qW w} v.G d) ∗ (cLoc d ↦{qW w} v.C d)
      ∗ bigSep Finset.univ fun c : Fin 26 => oLoc d ↦[chunkSet w.val c.val]{fullShare} v.X d) : sProp 𝕄) ⊢ goP v d w := by
    unfold goP goRes
    iintro H
    iexists T
    isplitr; · ipureintro; exact hT
    iexact H
  exact bigSep_mono fun w _ => one w

theorem dn_elim (d : Dev nD) :
    (bigSep Finset.univ fun c : Fin ((K (F := F)).nCore 0) => (P v).dn 0 d c) ⊢ (oLoc d ↦{fullShare} v.R d : sProp 𝕄) := by
  show (bigSep Finset.univ fun c : Fin 2 => bigSep Finset.univ fun i : Fin 16 => doneP v d (tw c.val i.val)) ⊢ _
  rw [bigSep_tiles (fun w => doneP v d w), out_chunks]
  exact BI.Entails.refl _

end Cert.Proof.K

end
-- ==== Proof.Repack.lean ====
/-
  The first call of the kernel, on the TensorCore: the tables laid out in rows of 128 lanes.

  The body reads its whole staged block and writes its whole staged result, so a point leaves `k0_pay1` of what was fetched.
  The last block of each table overhangs it: what the overhanging part of the staging buffer holds is not known, and of the
  result only the part that comes from the table is (`Trel`, in `RepackMath`).
-/
module

public import proofs.«01_k».proof.Proof.Tasks
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body -/

theorem repack_run (c : Dev nD) (i : grid0.Coords) (M0 : Memref sig .tc .vmem S1x3712x16 .f32) (h0 : M0.IsWhole)
    (M1 : Memref sig .tc .vmem S464x128 .f32) (h1 : M1.IsWhole) (Y : S1x3712x16.Idx → Elt F .f32) (X : S464x128.Idx → Elt F .f32)
    (Q : PUnit → sProp (MT nD τ sig (HIx 1) (Elt F) ℕ UU ℕ)) :
    (iprop(owns (c.tc : Thread nD τ) M0 fullShare Y ∗ owns (c.tc : Thread nD τ) M1 fullShare X
        ∗ (iprop(owns (c.tc : Thread nD τ) M0 fullShare Y ∗ owns (c.tc : Thread nD τ) M1 fullShare (k0_pay1 Y)) -∗ Q ⟨⟩)) : sProp 𝕄)
      ⊢ wp frame (wpE (defs₀ (F := F)) 𝒱₀ (c.tc : Thread nD τ) none) Set.univ (cc0__repack_body i M0 h0 M1 h1) Q := by
  rw [cc0__repack_body_eq_skeleton]
  unfold owns
  rw [h0.set_eq_univ, h1.set_eq_univ]
  iintro ⟨⟨%f0, %e0, H0⟩, ⟨%f1, %e1, H1⟩, Hk⟩
  sl_exec!
  sl_step
  iapply Hk
  isplitl [H0]
  · iexists _; isplitr; swap; (· iexact H0); ipureintro; exact e0
  · iexists _; isplitr; swap; (· iexact H1); ipureintro
    unfold repack_run.sl.H1_1
    rw [View.read_writes_full, View.readAt_full, e0]

/-! ## The region's proof data -/

/-- What the staging buffer of the tables may hold at point `t`: the block's part inside the table, anything past it. -/
def fill0 (A : S26x100001x16.Idx → Elt F .f32) (t : Fin cfg0.N) (d : S1x3712x16.Idx → Elt F .f32) : S1x3712x16.Idx → Elt F .f32 :=
  (cfg0.win 0).fill (cfg0.grid.coords t) d (((cfg0.win 0).blk t).view.read (Elt F) A)

variable (A : (c : Dev nD) → S26x100001x16.Idx → Elt F .f32) (X0 : (c : Dev nD) → S325728x128.Idx → Elt F .f32)
variable (O : (c : Dev nD) → CellTallies nD τ sig (HIx 1)) (B : ℕ)

/-- The pairs a core's waits may have recorded: those at a level at most `B`. -/
def recd (c : Dev nD) : Set (SemLoc sig × HIx 1) := {p | (K (F := F)).lev ((c.tc : Thread nD τ), p.1) p.2 ≤ B}

/-- What the core owes, its recorded pairs bounded. -/
def owesB (c : Dev nD) : sProp (MT nD τ sig (HIx 1) (Elt F) ℕ UU ℕ) :=
  iprop(∃ W, ⌜(K (F := F)).WBelow (T c) W B⌝ ∗ owes (T c) (O c) W)

/-- The data of the repacking: a point leaves the rows of some block it may have found. -/
def rdat0 (c : Dev nD) : Pipeline.RDat τ (Elt F) (HIx 1) ℕ UU ℕ cfg0 c where
  A w := match w with
    | ⟨0, _⟩ => A c
    | ⟨1, _⟩ => X0 c
  after w t _ X := match w with
    | ⟨0, _⟩ => True
    | ⟨1, _⟩ => ∃ d, X = k0_pay1 (fill0 (A c) t d)
  Φ _ := Pipeline.scopedRest spec0 c
  q _ := fullShare
  owed _ := O c
  recorded _ := recd (F := F) B c

/-- Data for a pipeline the region does not run: anything. -/
def junkR {cfg : Pipeline.Cfg sig Λ₀} (c : Dev nD) : Pipeline.RDat τ (Elt F) (HIx 1) ℕ UU ℕ cfg c where
  A _ := fun _ => Classical.arbitrary _
  after _ _ _ _ := True
  Φ _ := BI.emp
  q _ := fullShare
  owed _ := 0

abbrev adm : (p : Fin 2) → (pcfgs (F := F) p).Adm := fun p => (cfgs p).toPCfg_adm

def rdats0 : (p : Fin 2) → (c : Dev nD) → Pipeline.RDat τ (Elt F) (HIx 1) ℕ UU ℕ (Pipeline.pin (pcfgs (F := F)) adm p) c
  | ⟨0, _⟩ => fun c => rdat0 A X0 O B c
  | ⟨1, _⟩ => fun c => junkR c

theorem finds0 (c : Dev nD) (t : Fin cfg0.N) (Y : S1x3712x16.Idx → Elt F .f32) (h : (rdat0 A X0 O B c).Finds 0 t Y) :
    ∃ d, Y = fill0 (A c) t d := by
  unfold Pipeline.RDat.Finds at h
  rw [if_pos (fetch0_0 t)] at h
  exact h

theorem body0 (c : Dev nD) : (rdat0 A X0 O B c).BodyObligation (defs₀ (F := F)) 𝒱₀ none Set.univ := fun t Y hY => by
  obtain ⟨d, hd⟩ := finds0 A X0 O B c t (Y 0) (hY 0)
  rw [bigSep_W0, bigSep_W0]
  rw [show (rdat0 A X0 O B c).Φ t.castSucc = Pipeline.scopedRest spec0 c from rfl, show (rdat0 A X0 O B c).Φ t.succ = Pipeline.scopedRest spec0 c from rfl,
    show (rdat0 A X0 O B c).owesAt none t.succ = (rdat0 A X0 O B c).owesAt none t.castSucc from rfl]
  iintro ⟨HΦ, HO, H0, H1⟩
  iapply (repack_run c (grid0.coords t) _ (hstage0_0 ((cfg0.slots t 0).cast nbuf0_0)) _ (hstage0_1 ((cfg0.slots t 1).cast nbuf0_1)) (Y 0) (Y 1) _)
  isplitl [H0]; · iexact H0
  isplitl [H1]; · iexact H1
  iintro ⟨H0, H1⟩
  isplitl [HΦ]; · iexact HΦ
  isplitl [HO]; · iexact HO
  isplitl [H0]
  · iexists (Y 0); isplitr; swap; (· iexact H0); ipureintro; trivial
  · iexists _; isplitr; swap; (· iexact H1); ipureintro; exact ⟨d, by rw [hd]⟩

set_option backward.isDefEq.respectTransparency.types false in
/-- The region: from the tables and the packed array at anything, to the packed array at something the write-backs may leave. -/
def reg0 (hO : ∀ c g, O c g none = 0) : Pipeline.RDat.RegionSeg (pcfgs (F := F)) adm (rdats0 A X0 O B) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := body0 A X0 O B c
  hwaits c := Pipeline.RDat.cellsWaits_intro _ _ _ _ _ fun w s t => (K (F := F)).mayWait_none _ (hO c)
  pre c := iprop((aLoc c main_arg2 ↦{fullShare} A c) ∗ (tLoc c ↦{fullShare} X0 c) ∗ owesB O B c)
  post c := iprop((aLoc c main_arg2 ↦{fullShare} A c) ∗ (∃ G, ⌜(rdat0 A X0 O B c).ArrAt 1 cfg0.N G⌝ ∗ (tLoc c ↦{fullShare} G)) ∗ owesB O B c)
  X _ := BI.emp
  Y _ := BI.emp
  Z _ := BI.emp
  hentry c := by
    rw [Pipeline.ownSems0_none, Pipeline.RDat.arrays_eq (p := 0) (pcfgs (F := F)) adm (rdats0 A X0 O B) c launch0.arr_whole
      (fun w => by fin_cases w <;> rfl)]
    rw [show (bigSep Finset.univ fun w => (((c.tc : Thread nD τ).loc (Pipeline.arrRef (Pipeline.pin (pcfgs (F := F)) adm 0).spec w))
        ↦{fullShare} (rdats0 A X0 O B 0 c).A w : sProp 𝕄)) = iprop((aLoc c main_arg2 ↦{fullShare} A c) ∗ (tLoc c ↦{fullShare} X0 c)) from bigSep_W0 _]
    iintro ⟨⟨H2, Ht, HO⟩, -, -⟩
    imodintro
    isplitl [H2 Ht]
    · isplitl [H2]; · iexact H2
      iexact Ht
    isplitr; · unfold Pipeline.prefHeld; rw [show (Finset.univ : Finset (Fin 0)) = ∅ from rfl, BI.bigSep_empty]; iempintro
    isplitl [HO]
    · unfold owesB Pipeline.RDat.owesAt Pipeline.owesWithin
      icases HO with ⟨%W, %hW, HO⟩; iexists W; isplitr; · ipureintro; exact fun p hp => Or.inl (hW p hp)
      iexact HO
    isplitr; · iempintro
    iempintro
  hin c := by
    rw [show (rdats0 A X0 O B 0 c).Φ 0 = Pipeline.scopedRest spec0 c from rfl]
    iintro ⟨-, -, Hr⟩; iexact Hr
  hout c := by
    rw [Pipeline.ownSems0_none, show (rdats0 A X0 O B 0 c).Φ (Fin.last _) = Pipeline.scopedRest spec0 c from rfl]
    iintro Hr
    isplitr; · iempintro
    isplitr; · iempintro
    iexact Hr
  hexit c := by
    rw [Pipeline.RDat.arraysAt_eq (p := 0) (pcfgs (F := F)) adm (rdats0 A X0 O B) c launch0.arr_whole (fun w => by fin_cases w <;> rfl)]
    rw [show (bigSep Finset.univ fun w => iprop(∃ G, ⌜(rdats0 A X0 O B 0 c).ArrAt w (Pipeline.pin (pcfgs (F := F)) adm 0).N G⌝
        ∗ (((c.tc : Thread nD τ).loc (Pipeline.arrRef (Pipeline.pin (pcfgs (F := F)) adm 0).spec w)) ↦{fullShare} G : sProp 𝕄)))
      = iprop((∃ G, ⌜(rdat0 A X0 O B c).ArrAt 0 cfg0.N G⌝ ∗ (aLoc c main_arg2 ↦{fullShare} G)) ∗ (∃ G, ⌜(rdat0 A X0 O B c).ArrAt 1 cfg0.N G⌝ ∗ (tLoc c ↦{fullShare} G)))
      from bigSep_W0 _]
    iintro ⟨⟨⟨%G, %hG, H2⟩, H1⟩, HO, -, -⟩
    obtain rfl : G = A c := by rw [Pipeline.RDat.ArrAt_in _ 0 rfl] at hG; exact hG
    imodintro
    isplitl [H2]; · iexact H2
    isplitl [H1]; · iexact H1
    unfold owesB Pipeline.RDat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.K

end
-- ==== Proof.Mlp.lean ====
/-
  The last call of the kernel, on the TensorCore: the three layers, 2048 rows of the batch a point.

  Every point reads its rows of the two inputs and the whole weights, and leaves `k2_pay1` of them.
-/
module

public import proofs.«01_k».proof.Proof.Repack
public import Idealize.ShloMosaic.Lib.Pipeline.FrameBody
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body -/

theorem mlp_run (c : Dev nD) (i : grid2.Coords) (M0 : Memref sig .tc .vmem S2048x13 .f32) (h0 : M0.IsWhole) (M1 : Memref sig .tc .vmem S2048x416 .f32) (h1 : M1.IsWhole) (M2 : Memref sig .tc .vmem S13x64 .f32) (h2 : M2.IsWhole) (M3 : Memref sig .tc .vmem S416x64 .f32) (h3 : M3.IsWhole) (M4 : Memref sig .tc .vmem S1x64 .f32) (h4 : M4.IsWhole) (M5 : Memref sig .tc .vmem S64x32 .f32) (h5 : M5.IsWhole) (M6 : Memref sig .tc .vmem S1x32 .f32) (h6 : M6.IsWhole) (M7 : Memref sig .tc .vmem S32x1 .f32) (h7 : M7.IsWhole) (M8 : Memref sig .tc .vmem S1x1 .f32) (h8 : M8.IsWhole) (M9 : Memref sig .tc .vmem S2048x1 .f32) (h9 : M9.IsWhole)
    (Y0 : S2048x13.Idx → Elt F .f32) (Y1 : S2048x416.Idx → Elt F .f32) (Y2 : S13x64.Idx → Elt F .f32) (Y3 : S416x64.Idx → Elt F .f32) (Y4 : S1x64.Idx → Elt F .f32) (Y5 : S64x32.Idx → Elt F .f32) (Y6 : S1x32.Idx → Elt F .f32) (Y7 : S32x1.Idx → Elt F .f32) (Y8 : S1x1.Idx → Elt F .f32) (Y9 : S2048x1.Idx → Elt F .f32)
    (Q : PUnit → sProp (MT nD τ sig (HIx 1) (Elt F) ℕ UU ℕ)) :
    (iprop(owns (c.tc : Thread nD τ) M0 fullShare Y0 ∗ owns (c.tc : Thread nD τ) M1 fullShare Y1 ∗ owns (c.tc : Thread nD τ) M2 fullShare Y2 ∗ owns (c.tc : Thread nD τ) M3 fullShare Y3 ∗ owns (c.tc : Thread nD τ) M4 fullShare Y4 ∗ owns (c.tc : Thread nD τ) M5 fullShare Y5 ∗ owns (c.tc : Thread nD τ) M6 fullShare Y6 ∗ owns (c.tc : Thread nD τ) M7 fullShare Y7 ∗ owns (c.tc : Thread nD τ) M8 fullShare Y8 ∗ owns (c.tc : Thread nD τ) M9 fullShare Y9
        ∗ (iprop(owns (c.tc : Thread nD τ) M0 fullShare Y0 ∗ owns (c.tc : Thread nD τ) M1 fullShare Y1 ∗ owns (c.tc : Thread nD τ) M2 fullShare Y2 ∗ owns (c.tc : Thread nD τ) M3 fullShare Y3 ∗ owns (c.tc : Thread nD τ) M4 fullShare Y4 ∗ owns (c.tc : Thread nD τ) M5 fullShare Y5 ∗ owns (c.tc : Thread nD τ) M6 fullShare Y6 ∗ owns (c.tc : Thread nD τ) M7 fullShare Y7 ∗ owns (c.tc : Thread nD τ) M8 fullShare Y8 ∗ owns (c.tc : Thread nD τ) M9 fullShare (k2_pay1 Y0 Y2 Y1 Y3 Y4 Y5 Y6 Y7 Y8)) -∗ Q ⟨⟩)) : sProp 𝕄)
      ⊢ wp frame (wpE (defs₀ (F := F)) 𝒱₀ (c.tc : Thread nD τ) none) Set.univ (cc2__mlp_body i M0 h0 M1 h1 M2 h2 M3 h3 M4 h4 M5 h5 M6 h6 M7 h7 M8 h8 M9 h9) Q := by
  rw [cc2__mlp_body_eq_skeleton]
  unfold owns
  rw [h0.set_eq_univ, h1.set_eq_univ, h2.set_eq_univ, h3.set_eq_univ, h4.set_eq_univ, h5.set_eq_univ, h6.set_eq_univ, h7.set_eq_univ, h8.set_eq_univ, h9.set_eq_univ]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  sl_exec!
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  iexists _; isplitr; swap; (· iexact H9); ipureintro
  unfold mlp_run.sl.H9_1
  rw [View.read_writes_full]
  repeat rw [View.readAt_full]
  rw [e0, e1, e2, e3, e4, e5, e6, e7, e8]

/-! ## The region's proof data -/

/-- The arrays of the last call: the two inputs, the weights, the result before it. -/
structure MlpIn (F : FTy → Type) where
  x : S16384x13.Idx → Elt F .f32
  e : S16384x416.Idx → Elt F .f32
  wx : S13x64.Idx → Elt F .f32
  we : S416x64.Idx → Elt F .f32
  b1 : S1x64.Idx → Elt F .f32
  w2 : S64x32.Idx → Elt F .f32
  b2 : S1x32.Idx → Elt F .f32
  w3 : S32x1.Idx → Elt F .f32
  b3 : S1x1.Idx → Elt F .f32
  o : S16384x1.Idx → Elt F .f32

variable (I : Dev nD → MlpIn F) (O : (c : Dev nD) → CellTallies nD τ sig (HIx 1)) (B : ℕ)

/-- The arrays by window, the result at `g`. -/
def with9 (c : Dev nD) (g : S16384x1.Idx → Elt F .f32) : (w : Fin 10) → Buf (Elt F) ((cfg2.win w).arr.view.loc (c.tc : Thread nD τ))
  | ⟨0, _⟩ => (I c).x
  | ⟨1, _⟩ => (I c).e
  | ⟨2, _⟩ => (I c).wx
  | ⟨3, _⟩ => (I c).we
  | ⟨4, _⟩ => (I c).b1
  | ⟨5, _⟩ => (I c).w2
  | ⟨6, _⟩ => (I c).b2
  | ⟨7, _⟩ => (I c).w3
  | ⟨8, _⟩ => (I c).b3
  | ⟨9, _⟩ => g

/-- The arrays by window. -/
def arr2 (c : Dev nD) (w : Fin 10) := with9 I c (I c).o w

/-- A window's block at a point. -/
def blk2 (c : Dev nD) (w : Fin 10) (t : Fin cfg2.N) := ((cfg2.win w).blk t).view.read (Elt F) (arr2 I c w)

/-- What a point leaves in the result's buffer. -/
def res2 (c : Dev nD) (t : Fin cfg2.N) : S2048x1.Idx → Elt F .f32 :=
  k2_pay1 (blk2 I c 0 t) (blk2 I c 2 t) (blk2 I c 1 t) (blk2 I c 3 t) (blk2 I c 4 t) (blk2 I c 5 t) (blk2 I c 6 t) (blk2 I c 7 t) (blk2 I c 8 t)

/-- The data of the last call. -/
def dat2 (c : Dev nD) : Pipeline.Dat τ (Elt F) (HIx 1) ℕ UU ℕ cfg2 c where
  A := arr2 I c
  after w t := match w with
    | ⟨0, _⟩ => blk2 I c 0 t
    | ⟨1, _⟩ => blk2 I c 1 t
    | ⟨2, _⟩ => blk2 I c 2 t
    | ⟨3, _⟩ => blk2 I c 3 t
    | ⟨4, _⟩ => blk2 I c 4 t
    | ⟨5, _⟩ => blk2 I c 5 t
    | ⟨6, _⟩ => blk2 I c 6 t
    | ⟨7, _⟩ => blk2 I c 7 t
    | ⟨8, _⟩ => blk2 I c 8 t
    | ⟨9, _⟩ => res2 I c t
  Φ _ := Pipeline.scopedRest spec2 c
  q _ := fullShare
  owed _ := O c
  recorded _ := recd (F := F) B c

/-- Data for a pipeline the region does not run: anything. -/
def junkD {cfg : Pipeline.Cfg sig Λ₀} (c : Dev nD) : Pipeline.Dat τ (Elt F) (HIx 1) ℕ UU ℕ cfg c where
  A _ := fun _ => Classical.arbitrary _
  after _ _ := fun _ => Classical.arbitrary _
  Φ _ := BI.emp
  q _ := fullShare
  owed _ := 0

def dats2 : (p : Fin 2) → (c : Dev nD) → Pipeline.Dat τ (Elt F) (HIx 1) ℕ UU ℕ (Pipeline.pin (pcfgs (F := F)) adm p) c
  | ⟨0, _⟩ => fun c => junkD c
  | ⟨1, _⟩ => fun c => dat2 I O B c

theorem before2_0 (c : Dev nD) (t : Fin cfg2.N) (d : S2048x13.Idx → Elt F .f32) : (dat2 I O B c).before 0 t d = blk2 I c 0 t :=
  ((dat2 I O B c).before_in_eq_fetched 0 rfl (fun _ => rfl) (fun _ _ _ => rfl) (fun _ => rfl) t d).trans rfl

theorem before2_1 (c : Dev nD) (t : Fin cfg2.N) (d : S2048x416.Idx → Elt F .f32) : (dat2 I O B c).before 1 t d = blk2 I c 1 t :=
  ((dat2 I O B c).before_in_eq_fetched 1 rfl (fun _ => rfl) (fun _ _ _ => rfl) (fun _ => rfl) t d).trans rfl

theorem before2_2 (c : Dev nD) (t : Fin cfg2.N) (d : S13x64.Idx → Elt F .f32) : (dat2 I O B c).before 2 t d = blk2 I c 2 t :=
  ((dat2 I O B c).before_in_eq_fetched 2 rfl (fun _ => rfl) (fun _ _ _ => rfl) (fun _ => rfl) t d).trans rfl

theorem before2_3 (c : Dev nD) (t : Fin cfg2.N) (d : S416x64.Idx → Elt F .f32) : (dat2 I O B c).before 3 t d = blk2 I c 3 t :=
  ((dat2 I O B c).before_in_eq_fetched 3 rfl (fun _ => rfl) (fun _ _ _ => rfl) (fun _ => rfl) t d).trans rfl

theorem before2_4 (c : Dev nD) (t : Fin cfg2.N) (d : S1x64.Idx → Elt F .f32) : (dat2 I O B c).before 4 t d = blk2 I c 4 t :=
  ((dat2 I O B c).before_in_eq_fetched 4 rfl (fun _ => rfl) (fun _ _ _ => rfl) (fun _ => rfl) t d).trans rfl

theorem before2_5 (c : Dev nD) (t : Fin cfg2.N) (d : S64x32.Idx → Elt F .f32) : (dat2 I O B c).before 5 t d = blk2 I c 5 t :=
  ((dat2 I O B c).before_in_eq_fetched 5 rfl (fun _ => rfl) (fun _ _ _ => rfl) (fun _ => rfl) t d).trans rfl

theorem before2_6 (c : Dev nD) (t : Fin cfg2.N) (d : S1x32.Idx → Elt F .f32) : (dat2 I O B c).before 6 t d = blk2 I c 6 t :=
  ((dat2 I O B c).before_in_eq_fetched 6 rfl (fun _ => rfl) (fun _ _ _ => rfl) (fun _ => rfl) t d).trans rfl

theorem before2_7 (c : Dev nD) (t : Fin cfg2.N) (d : S32x1.Idx → Elt F .f32) : (dat2 I O B c).before 7 t d = blk2 I c 7 t :=
  ((dat2 I O B c).before_in_eq_fetched 7 rfl (fun _ => rfl) (fun _ _ _ => rfl) (fun _ => rfl) t d).trans rfl

theorem before2_8 (c : Dev nD) (t : Fin cfg2.N) (d : S1x1.Idx → Elt F .f32) : (dat2 I O B c).before 8 t d = blk2 I c 8 t :=
  ((dat2 I O B c).before_in_eq_fetched 8 rfl (fun _ => rfl) (fun _ _ _ => rfl) (fun _ => rfl) t d).trans rfl

theorem body2 (c : Dev nD) : Pipeline.BodyObligation (dat2 I O B c) (defs₀ (F := F)) 𝒱₀ none Set.univ := fun t => by
  rw [bigSep_W2, bigSep_W2]
  rw [show (dat2 I O B c).Φ t.castSucc = Pipeline.scopedRest spec2 c from rfl, show (dat2 I O B c).Φ t.succ = Pipeline.scopedRest spec2 c from rfl,
    show (dat2 I O B c).owesAt none t.succ = (dat2 I O B c).owesAt none t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before2_0, before2_1, before2_2, before2_3, before2_4, before2_5, before2_6, before2_7, before2_8]
  iapply (mlp_run c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ (hstage2_9 ((cfg2.slots t 9).cast nbuf2_9))
    (blk2 I c 0 t) (blk2 I c 1 t) (blk2 I c 2 t) (blk2 I c 3 t) (blk2 I c 4 t) (blk2 I c 5 t) (blk2 I c 6 t) (blk2 I c 7 t) (blk2 I c 8 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem with9_ne (c : Dev nD) (g g' : S16384x1.Idx → Elt F .f32) : (w : Fin 10) → w ≠ 9 → with9 I c g w = with9 I c g' w
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl
  | ⟨8, _⟩, _ => rfl
  | ⟨9, _⟩, h => absurd rfl h

theorem eq_with9 (c : Dev nD) (G : (w : Fin 10) → Buf (Elt F) ((cfg2.win w).arr.view.loc (c.tc : Thread nD τ))) (hG : ∀ w, w ≠ 9 → G w = arr2 I c w) : G = with9 I c (G 9) := by
  funext w
  by_cases hw : w = 9
  · subst hw; rfl
  · exact (hG w hw).trans (with9_ne I c _ _ w hw)

/-- The arrays of the last call, the result at `g`. -/
def mlpAll (c : Dev nD) (g : S16384x1.Idx → Elt F .f32) : sProp (MT nD τ sig (HIx 1) (Elt F) ℕ UU ℕ) :=
  iprop((aLoc c main_arg0 ↦{fullShare} (I c).x) ∗ (aLoc c main_v22 ↦{fullShare} (I c).e) ∗ (aLoc c main_v23 ↦{fullShare} (I c).wx) ∗ (aLoc c main_v24 ↦{fullShare} (I c).we) ∗ (aLoc c main_v25 ↦{fullShare} (I c).b1) ∗ (aLoc c main_arg5 ↦{fullShare} (I c).w2) ∗ (aLoc c main_v26 ↦{fullShare} (I c).b2) ∗ (aLoc c main_arg7 ↦{fullShare} (I c).w3) ∗ (aLoc c main_v27 ↦{fullShare} (I c).b3) ∗ (aLoc c main_v28 ↦{fullShare} g))

/-- The result of the last call. -/
def mlpOut (c : Dev nD) : S16384x1.Idx → Elt F .f32 := (dat2 I O B c).arrAt 9 cfg2.N

theorem arrays2 (c : Dev nD) (G : (w : Fin 10) → Buf (Elt F) ((cfg2.win w).arr.view.loc (c.tc : Thread nD τ))) (hG : ∀ w, w ≠ 9 → G w = arr2 I c w) :
    (dat2 I O B c).arrays G = mlpAll I c (G 9) := by
  have e : (dat2 I O B c).arrays G = bigSep Finset.univ fun w : Fin 10 => ((cfg2.win w).arr.view.loc (c.tc : Thread nD τ) ↦{fullShare} G w : sProp 𝕄) := by
    unfold Pipeline.Dat.arrays
    exact bigSep_congr fun w _ => by
      have hw : (cfg2.win w).arr.IsWhole := by fin_cases w <;> exact Memref.isWhole_whole _
      rw [hw.set_eq_univ, (dat2 I O B c).share_full fun _ => rfl]
  rw [e, eq_with9 I c G hG, bigSep_W2]
  rfl

set_option backward.isDefEq.respectTransparency.types false in
/-- The region: from the arrays to the arrays with the result written. -/
def reg2 (hO : ∀ c g, O c g none = 0) : Pipeline.RegionSeg (pcfgs (F := F)) adm (dats2 I O B) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 I O B c).loose
  hwaits c := Pipeline.cellsWaits_intro _ _ _ _ _ fun w s t => (K (F := F)).mayWait_none _ (hO c)
  pre c := iprop(mlpAll I c (I c).o ∗ owesB O B c)
  post c := iprop(mlpAll I c (mlpOut I O B c) ∗ owesB O B c)
  X _ := BI.emp
  Y _ := BI.emp
  Z _ := BI.emp
  hentry c := by
    have e := arrays2 I O B c ((dat2 I O B c).arrAt · 0) fun w hw => (dat2 I O B c).arrAt_in w (by revert hw; revert w; decide) _
    rw [Pipeline.ownSems0_none, show ((dats2 I O B 1 c).arrays fun w => (dats2 I O B 1 c).arrAt w 0) = _ from e]
    iintro ⟨⟨H2, HO⟩, -, -⟩
    imodintro
    isplitl [H2]; · iexact H2
    isplitr; · unfold Pipeline.prefHeld; rw [show (Finset.univ : Finset (Fin 0)) = ∅ from rfl, BI.bigSep_empty]; iempintro
    isplitl [HO]
    · unfold owesB Pipeline.Dat.owesAt Pipeline.owesWithin
      icases HO with ⟨%W, %hW, HO⟩; iexists W; isplitr; · ipureintro; exact fun p hp => Or.inl (hW p hp)
      iexact HO
    isplitr; · iempintro
    iempintro
  hin c := by
    rw [show (dats2 I O B 1 c).Φ 0 = Pipeline.scopedRest spec2 c from rfl]
    iintro ⟨-, -, Hr⟩; iexact Hr
  hout c := by
    rw [Pipeline.ownSems0_none, show (dats2 I O B 1 c).Φ (Fin.last _) = Pipeline.scopedRest spec2 c from rfl]
    iintro Hr
    isplitr; · iempintro
    isplitr; · iempintro
    iexact Hr
  hexit c := by
    have e := arrays2 I O B c ((dat2 I O B c).arrAt · cfg2.N) fun w hw => (dat2 I O B c).arrAt_in w (by revert hw; revert w; decide) _
    rw [show ((dats2 I O B 1 c).arrays fun w => (dats2 I O B 1 c).arrAt w (Pipeline.pin (pcfgs (F := F)) adm 1).N) = _ from e]
    iintro ⟨H2, HO, -, -⟩
    imodintro
    isplitl [H2]; · iexact H2
    unfold owesB Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.K

end
-- ==== Proof.Ops.lean ====
/-
  The host operations of `main`, as lists, and `main` as these lists and the three calls.
-/
module

public import proofs.«01_k».proof.Proof.Mlp
public import Idealize.ShloMosaic.Lib.Pipeline.Frame
public import Idealize.ShloMosaic.Lib.Pipeline.FrameBody
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row numbers and the columns, before the first call. -/
def ops1 : List (HloOp τ sig (Elt F)) := [
  (StableHlo.nullary main_v0 (iotaInDim S26 32 0)),
  (StableHlo.nullary main_c (constantI S_ 32 12528#32)),
  (StableHlo.unary main_c main_v1 (broadcastInDim S26 ![] bcast_S_S26 : (⟨S_, .i32⟩ : BufTy).Contents (Elt F) → (⟨S26, .i32⟩ : BufTy).Contents (Elt F))),
  (StableHlo.binary main_v0 main_v1 main_v2 (muli : (⟨S26, .i32⟩ : BufTy).Contents (Elt F) → (⟨S26, .i32⟩ : BufTy).Contents (Elt F) → (⟨S26, .i32⟩ : BufTy).Contents (Elt F))),
  (StableHlo.unary main_v2 main_v3 (broadcastInDim S1x26 ![1] bcast_S26_S1x26_1 : (⟨S26, .i32⟩ : BufTy).Contents (Elt F) → (⟨S1x26, .i32⟩ : BufTy).Contents (Elt F))),
  (StableHlo.nullary main_c_0 (constantI S_ 32 3#32)),
  (StableHlo.unary main_c_0 main_v4 (broadcastInDim S16384x26 ![] bcast_S_S16384x26 : (⟨S_, .i32⟩ : BufTy).Contents (Elt F) → (⟨S16384x26, .i32⟩ : BufTy).Contents (Elt F))),
  (StableHlo.binary main_arg1 main_v4 main_v5 (Host.shrsi : (⟨S16384x26, .i32⟩ : BufTy).Contents (Elt F) → (⟨S16384x26, .i32⟩ : BufTy).Contents (Elt F) → (⟨S16384x26, .i32⟩ : BufTy).Contents (Elt F))),
  (StableHlo.unary main_v3 main_v6 (broadcastInDim S16384x26 ![0, 1] bcast_S1x26_S16384x26_0_1 : (⟨S1x26, .i32⟩ : BufTy).Contents (Elt F) → (⟨S16384x26, .i32⟩ : BufTy).Contents (Elt F))),
  (StableHlo.binary main_v6 main_v5 main_v7 (addi : (⟨S16384x26, .i32⟩ : BufTy).Contents (Elt F) → (⟨S16384x26, .i32⟩ : BufTy).Contents (Elt F) → (⟨S16384x26, .i32⟩ : BufTy).Contents (Elt F))),
  (StableHlo.reshape main_v7 main_v8 (rfl : (.i32 : EltTy) = .i32) shapeCasts_S16384x26_S32x104x128),
  (StableHlo.nullary main_c_1 (constantI S_ 32 7#32)),
  (StableHlo.unary main_c_1 main_v9 (broadcastInDim S16384x26 ![] bcast_S_S16384x26 : (⟨S_, .i32⟩ : BufTy).Contents (Elt F) → (⟨S16384x26, .i32⟩ : BufTy).Contents (Elt F))),
  (StableHlo.binary main_arg1 main_v9 main_v10 (andi : (⟨S16384x26, .i32⟩ : BufTy).Contents (Elt F) → (⟨S16384x26, .i32⟩ : BufTy).Contents (Elt F) → (⟨S16384x26, .i32⟩ : BufTy).Contents (Elt F))),
  (StableHlo.nullary main_c_2 (constantI S_ 32 4#32)),
  (StableHlo.unary main_c_2 main_v11 (broadcastInDim S16384x26 ![] bcast_S_S16384x26 : (⟨S_, .i32⟩ : BufTy).Contents (Elt F) → (⟨S16384x26, .i32⟩ : BufTy).Contents (Elt F))),
  (StableHlo.binary main_v10 main_v11 main_v12 (Host.shli : (⟨S16384x26, .i32⟩ : BufTy).Contents (Elt F) → (⟨S16384x26, .i32⟩ : BufTy).Contents (Elt F) → (⟨S16384x26, .i32⟩ : BufTy).Contents (Elt F))),
  (StableHlo.unary main_v12 main_v13 (broadcastInDim S16384x26x1 ![0, 1] bcast_S16384x26_S16384x26x1_0_1 : (⟨S16384x26, .i32⟩ : BufTy).Contents (Elt F) → (⟨S16384x26x1, .i32⟩ : BufTy).Contents (Elt F))),
  (StableHlo.nullary main_v14 (iotaInDim S16 32 0)),
  (StableHlo.unary main_v14 main_v15 (broadcastInDim S1x1x16 ![2] bcast_S16_S1x1x16_2 : (⟨S16, .i32⟩ : BufTy).Contents (Elt F) → (⟨S1x1x16, .i32⟩ : BufTy).Contents (Elt F))),
  (StableHlo.unary main_v13 main_v16 (broadcastInDim S16384x26x16 ![0, 1, 2] bcast_S16384x26x1_S16384x26x16_0_1_2 : (⟨S16384x26x1, .i32⟩ : BufTy).Contents (Elt F) → (⟨S16384x26x16, .i32⟩ : BufTy).Contents (Elt F))),
  (StableHlo.unary main_v15 main_v17 (broadcastInDim S16384x26x16 ![0, 1, 2] bcast_S1x1x16_S16384x26x16_0_1_2 : (⟨S1x1x16, .i32⟩ : BufTy).Contents (Elt F) → (⟨S16384x26x16, .i32⟩ : BufTy).Contents (Elt F))),
  (StableHlo.binary main_v16 main_v17 main_v18 (addi : (⟨S16384x26x16, .i32⟩ : BufTy).Contents (Elt F) → (⟨S16384x26x16, .i32⟩ : BufTy).Contents (Elt F) → (⟨S16384x26x16, .i32⟩ : BufTy).Contents (Elt F))),
  (StableHlo.reshape main_v18 main_v19 (rfl : (.i32 : EltTy) = .i32) shapeCasts_S16384x26x16_S32x1664x128)]

/-- The inputs of the last call. -/
def ops2 : List (HloOp τ sig (Elt F)) := [
  (StableHlo.reshape main_v21 main_v22 (rfl : (.f32 : EltTy) = .f32) shapeCasts_S32x26x64x128_S16384x416),
  (StableHlo.unary main_arg3 main_v23 ((extractStridedSlice S13x64 ![0, 0] · slices_S429x64_S13x64_0_0) : (⟨S429x64, .f32⟩ : BufTy).Contents (Elt F) → (⟨S13x64, .f32⟩ : BufTy).Contents (Elt F))),
  (StableHlo.unary main_arg3 main_v24 ((extractStridedSlice S416x64 ![13, 0] · slices_S429x64_S416x64_13_0) : (⟨S429x64, .f32⟩ : BufTy).Contents (Elt F) → (⟨S416x64, .f32⟩ : BufTy).Contents (Elt F))),
  (StableHlo.reshape main_arg4 main_v25 (rfl : (.f32 : EltTy) = .f32) shapeCasts_S64_S1x64),
  (StableHlo.reshape main_arg6 main_v26 (rfl : (.f32 : EltTy) = .f32) shapeCasts_S32_S1x32),
  (StableHlo.reshape main_arg8 main_v27 (rfl : (.f32 : EltTy) = .f32) shapeCasts_S1_S1x1)]

/-- The result's shape. -/
def ops3 : List (HloOp τ sig (Elt F)) := [
  (StableHlo.reshape main_v28 main_v29 (rfl : (.f32 : EltTy) = .f32) shapeCasts_S16384x1_S16384)]

theorem main_eq (d : Dev nD) : main (F := F) d = (StableHlo.seq ops1 >>= fun _ =>
    (SparseCore.liftProg (.op (.customCall (Pipeline.entry 0) ()) .ret : Prog (TpuEff nD τ sig (Elt F) (ΛP (F := F)) .tc) PUnit) >>= fun _ =>
    ((K (F := F)).run d 0 >>= fun _ => (StableHlo.seq ops2 >>= fun _ =>
    (SparseCore.liftProg (.op (.customCall (Pipeline.entry 1) ()) .ret : Prog (TpuEff nD τ sig (Elt F) (ΛP (F := F)) .tc) PUnit) >>= fun _ => (StableHlo.seq ops3 >>= fun _ => pure ⟨⟩)))))) := rfl

/-- The buffers used after the gather. -/
def late : Finset (DevRef τ sig) := {Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8, Proc.devRef .tc main_v21, Proc.devRef .tc main_v22, Proc.devRef .tc main_v23, Proc.devRef .tc main_v24, Proc.devRef .tc main_v25, Proc.devRef .tc main_v26, Proc.devRef .tc main_v27, Proc.devRef .tc main_v28, Proc.devRef .tc main_v29}

theorem ops1_sub : ∀ op ∈ (ops1 : List (HloOp τ sig (Elt F))), op.bufs ⊆ Pipeline.ucRefs τ sig := by
  intro op h
  refine Pipeline.sub_ucRefs op ?_
  revert op
  simp only [ops1, List.forall_mem_cons, StableHlo.nullary_bufs_sub, StableHlo.unary_bufs_sub, StableHlo.binary_bufs_sub, StableHlo.reshape_bufs_sub, true_and]
  exact fun _ h => nomatch h
theorem ops1_fresh : ∀ op ∈ (ops1 : List (HloOp τ sig (Elt F))), op.fresh = ∅ := by
  simp only [ops1, List.forall_mem_cons]; (repeat' apply And.intro) <;> first | rfl | exact fun _ h => nomatch h
theorem ops2_fresh : ∀ op ∈ (ops2 : List (HloOp τ sig (Elt F))), op.fresh = ∅ := by
  simp only [ops2, List.forall_mem_cons]; (repeat' apply And.intro) <;> first | rfl | exact fun _ h => nomatch h
theorem ops3_fresh : ∀ op ∈ (ops3 : List (HloOp τ sig (Elt F))), op.fresh = ∅ := by
  simp only [ops3, List.forall_mem_cons]; (repeat' apply And.intro) <;> first | rfl | exact fun _ h => nomatch h
theorem ops2_sub : ∀ op ∈ (ops2 : List (HloOp τ sig (Elt F))), op.bufs ⊆ late := by
  simp only [ops2, List.forall_mem_cons]
  refine ⟨?_, ?_, ?_, ?_, ?_, ?_, fun _ h => nomatch h⟩
  · show ({Proc.devRef .tc main_v21, Proc.devRef .tc main_v22} : Finset (DevRef τ sig)) ⊆ late; decide
  · show ({Proc.devRef .tc main_arg3, Proc.devRef .tc main_v23} : Finset (DevRef τ sig)) ⊆ late; decide
  · show ({Proc.devRef .tc main_arg3, Proc.devRef .tc main_v24} : Finset (DevRef τ sig)) ⊆ late; decide
  · show ({Proc.devRef .tc main_arg4, Proc.devRef .tc main_v25} : Finset (DevRef τ sig)) ⊆ late; decide
  · show ({Proc.devRef .tc main_arg6, Proc.devRef .tc main_v26} : Finset (DevRef τ sig)) ⊆ late; decide
  · show ({Proc.devRef .tc main_arg8, Proc.devRef .tc main_v27} : Finset (DevRef τ sig)) ⊆ late; decide
theorem ops3_sub : ∀ op ∈ (ops3 : List (HloOp τ sig (Elt F))), op.bufs ⊆ late := by
  simp only [ops3, List.forall_mem_cons]
  refine ⟨?_, fun _ h => nomatch h⟩
  show ({Proc.devRef .tc main_v28, Proc.devRef .tc main_v29} : Finset (DevRef τ sig)) ⊆ late; decide

end Cert.Proof.K

end
-- ==== Proof.Calls.lean ====
/-
  The two TensorCore calls as steps of `main`, and the ghost state they start from.
-/
module

public import proofs.«01_k».proof.Proof.Split
public import proofs.«01_k».proof.Proof.Ops
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem pinj : Function.Injective (Pipeline.cellOf (nD := nD) (τ := τ) (Pipeline.pin (pcfgs (F := F)) adm)) := cellOf_inj

/-- A pipeline's ghost state on a device. -/
def ghostP (p : Fin 2) (d : Dev nD) : sProp (MT nD τ sig (HIx 1) (Elt F) ℕ UU ℕ) :=
  iprop(Pipeline.cellsGhost (Pipeline.pin (pcfgs (F := F)) adm) EP p d ∗ Pipeline.toksInit (Pipeline.pin (pcfgs (F := F)) adm) EP p d)

def u₀ : UU := (initOf (K (F := F)).hsCells (K (F := F)).hsToks,
  (initOf (Pipeline.cells (Pipeline.pin (pcfgs (F := F)) adm) (pinj (F := F))) (Pipeline.launchToks (Pipeline.pin (pcfgs (F := F)) adm) (pinj (F := F))), 1))

theorem bigSep_emp' {I : Type} (s : Finset I) : (bigSep s fun _ => iprop(emp)) = (iprop(emp) : sProp 𝕄) := bigSep_emp_const s

theorem own_EP (a : UP) : (BI.own ((embR : Emb (UP × Counters) (MT nD τ sig (HIx 1) (Elt F) ℕ UU ℕ)) (a, (1 : Counters))) : sProp 𝕄) ⊢ BI.own (EP a) :=
  (own_pair_emb (embR : Emb (UP × Counters) (MT nD τ sig (HIx 1) (Elt F) ℕ UU ℕ)) a 1).trans sep_elim_left

variable (v : Vals F)

theorem hu₀ : (ownU (u₀ (F := F)) : sProp 𝕄)
    ⊢ |={Set.univ}=> iprop(BI.own (EH (initOf (K (F := F)).hsCells (K (F := F)).hsToks)) ∗ (bigSep Finset.univ fun d : Dev nD => iprop(ghostP (F := F) 0 d ∗ ghostP (F := F) 1 d))
        ∗ bigSep Finset.univ fun thr : Thread nD τ => bigSep Finset.univ fun q : Fin 1 => (P v).x q thr) := by
  unfold u₀
  iintro Hu
  ihave H := (ownU_pair (initOf (K (F := F)).hsCells (K (F := F)).hsToks) _) $$ Hu
  icases H with ⟨HH, HP⟩
  ihave HP := (own_EP _) $$ HP
  imod (Pipeline.fund_ghost (Pipeline.pin (pcfgs (F := F)) adm) EP pinj) $$ HP with ⟨Hg, Ht⟩
  imodintro
  isplitl [HH]; · iexact HH
  have e : (iprop((bigSep Finset.univ fun c : Dev nD => bigSep Finset.univ fun p => Pipeline.cellsGhost (Pipeline.pin (pcfgs (F := F)) adm) EP p c)
      ∗ (bigSep Finset.univ fun c : Dev nD => bigSep Finset.univ fun p => Pipeline.toksInit (Pipeline.pin (pcfgs (F := F)) adm) EP p c)) : sProp 𝕄)
      = bigSep Finset.univ fun d : Dev nD => iprop(ghostP (F := F) 0 d ∗ ghostP (F := F) 1 d) := by
    rw [← bigSep_sep']
    refine bigSep_congr fun d _ => ?_
    rw [← bigSep_sep', show (Finset.univ : Finset (Fin 2)) = {0, 1} from rfl, SparseCore.bigSep_insert' (by decide), bigSep_singleton]
    rfl
  isplitl [Hg Ht]
  · ihave H := (Entails.of_eq e) $$ [Hg Ht]
    · isplitl [Hg] <;> iassumption
    iexact H
  rw [show (bigSep Finset.univ fun thr : Thread nD τ => bigSep Finset.univ fun q : Fin 1 => (P (F := F) v).x q thr) = bigSep Finset.univ fun _ => iprop(emp) from
      bigSep_congr fun _ _ => bigSep_univ_of_subsingleton (0 : Fin 1), bigSep_emp']
  iempintro

theorem Otc_none (d : Dev nD) (n : ℕ) (g : GSem nD τ sig) : (K (F := F)).Otc (N := 1) d n g none = 0 := by
  by_contra h
  have := SparseCore.Cfg.lev_of_Otc_pos (K := K (F := F)) (Nat.pos_of_ne_zero h)
  rw [SparseCore.Cfg.lev_none] at this
  omega

/-- A TensorCore call inside `main`. -/
theorem call0 [∀ e, Nonempty (Elt F e)] (A : Dev nD → S26x100001x16.Idx → Elt F .f32) (X0 : Dev nD → S325728x128.Idx → Elt F .f32) (d : Dev nD)
    (Q : PUnit → sProp (MT nD τ sig (HIx 1) (Elt F) ℕ UU ℕ)) :
    (iprop((boundary (d.tc : Thread nD τ) ∗ (reg0 A X0 (fun c => (K (F := F)).Otc c 0) (8 * 0) fun c g => Otc_none c 0 g).post d -∗ Q ⟨⟩)
      ∗ boundary (d.tc : Thread nD τ) ∗ (reg0 A X0 (fun c => (K (F := F)).Otc c 0) (8 * 0) fun c g => Otc_none c 0 g).pre d
      ∗ levAts (K (F := F)).L (K (F := F)).lev ∗ ghostP 0 d) : sProp 𝕄)
      ⊢ wp frame (wpE ((K (F := F)).defs (D (F := F))) 𝒱 (d.tc : Thread nD τ) none) Set.univ
          (SparseCore.liftProg (.op (.customCall (Pipeline.entry 0) ()) .ret : Prog (TpuEff nD τ sig (Elt F) (ΛP (F := F)) .tc) PUnit)) Q := by
  unfold ghostP
  iintro ⟨Hk, H⟩
  iapply ((K (F := F)).wp_liftProg (D (F := F)) 𝒱 (d.tc : Thread nD τ) Set.univ none _ _)
  iapply (Pipeline.RDat.RegionSeg.wp (pcfgs (F := F)) adm _ none pinj EP defs₀ 𝒱₀ (K (F := F)).L (K (F := F)).lev
    (reg0 A X0 (fun c => (K (F := F)).Otc c 0) (8 * 0) fun c g => Otc_none c 0 g) d none (fun _ h => nomatch h) _ _)
  isplitl [Hk]
  · iintro H
    rw [wp_ret]; imodintro
    iapply Hk; iexact H
  iexact H

/-- The last call. -/
theorem call2 [∀ e, Nonempty (Elt F e)] (I : Dev nD → MlpIn F) (d : Dev nD)
    (Q : PUnit → sProp (MT nD τ sig (HIx 1) (Elt F) ℕ UU ℕ)) :
    (iprop((boundary (d.tc : Thread nD τ) ∗ (reg2 I (fun c => (K (F := F)).Otc c 1) (8 * 1) fun c g => Otc_none c 1 g).post d -∗ Q ⟨⟩)
      ∗ boundary (d.tc : Thread nD τ) ∗ (reg2 I (fun c => (K (F := F)).Otc c 1) (8 * 1) fun c g => Otc_none c 1 g).pre d
      ∗ levAts (K (F := F)).L (K (F := F)).lev ∗ ghostP 1 d) : sProp 𝕄)
      ⊢ wp frame (wpE ((K (F := F)).defs (D (F := F))) 𝒱 (d.tc : Thread nD τ) none) Set.univ
          (SparseCore.liftProg (.op (.customCall (Pipeline.entry 1) ()) .ret : Prog (TpuEff nD τ sig (Elt F) (ΛP (F := F)) .tc) PUnit)) Q := by
  unfold ghostP
  iintro ⟨Hk, H⟩
  iapply ((K (F := F)).wp_liftProg (D (F := F)) 𝒱 (d.tc : Thread nD τ) Set.univ none _ _)
  iapply (Pipeline.RegionSeg.wp (pcfgs (F := F)) adm _ none pinj EP defs₀ 𝒱₀ (K (F := F)).L (K (F := F)).lev
    (reg2 I (fun c => (K (F := F)).Otc c 1) (8 * 1) fun c g => Otc_none c 1 g) d none (fun _ h => nomatch h) _ _)
  isplitl [Hk]
  · iintro H
    rw [wp_ret]; imodintro
    iapply Hk; iexact H
  iexact H

end Cert.Proof.K

end
-- ==== Proof.Main.lean ====
/-
  `main` on the TensorCore: host operations, the repack, the gather, host operations, the last layers.
-/
module

public import proofs.«01_k».proof.Proof.Calls
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg) (v : Vals F)

/-- The contents at launch, and after the first host operations. -/
def V₀ (d : Dev nD) : Valuation τ sig (Elt F) := fun b => m (d, b)
def V₁ (d : Dev nD) : Valuation τ sig (Elt F) := StableHlo.after ops1 (V₀ m d)
/-- After the gather, and after the host operations that follow. -/
def V₂ (d : Dev nD) : Valuation τ sig (Elt F) := Function.update (V₁ m d) (Proc.devRef .tc main_v21) (v.R d)
def V₃ (d : Dev nD) : Valuation τ sig (Elt F) := StableHlo.after ops2 (V₂ m v d)

/-- The last call's arrays. -/
def mlpIn (d : Dev nD) : MlpIn F where
  x := V₃ m v d (Proc.devRef .tc main_arg0)
  e := V₃ m v d (Proc.devRef .tc main_v22)
  wx := V₃ m v d (Proc.devRef .tc main_v23)
  we := V₃ m v d (Proc.devRef .tc main_v24)
  b1 := V₃ m v d (Proc.devRef .tc main_v25)
  w2 := V₃ m v d (Proc.devRef .tc main_arg5)
  b2 := V₃ m v d (Proc.devRef .tc main_v26)
  w3 := V₃ m v d (Proc.devRef .tc main_arg7)
  b3 := V₃ m v d (Proc.devRef .tc main_v27)
  o := V₃ m v d (Proc.devRef .tc main_v28)

def V₄ (d : Dev nD) : Valuation τ sig (Elt F) :=
  Function.update (V₃ m v d) (Proc.devRef .tc main_v28) (mlpOut (mlpIn m v) (fun c => (K (F := F)).Otc c 1) (8 * 1) d)
def V₅ (d : Dev nD) : Valuation τ sig (Elt F) := StableHlo.after ops3 (V₄ m v d)

/-- The repack's data at the launch. -/
abbrev rd0 (d : Dev nD) := rdat0 (fun c => V₁ m c (Proc.devRef .tc main_arg2)) (fun c => V₁ m c (Proc.devRef .tc main_v20))
  (fun c => (K (F := F)).Otc c 0) (8 * 0) d

/-- The values the gather is proved for are those `main` computes. -/
structure Fits : Prop where
  G : ∀ d, v.G d = V₁ m d (Proc.devRef .tc main_v8)
  C : ∀ d, v.C d = V₁ m d (Proc.devRef .tc main_v19)
  X : ∀ d, v.X d = V₁ m d (Proc.devRef .tc main_v21)
  T : ∀ d T, (rd0 m d).ArrAt 1 cfg0.N T → v.TR d T

/-! ## The sets of buffers -/

/-- The buffers of the first two calls. -/
def early : Finset (DevRef τ sig) := {Proc.devRef .tc main_v20, Proc.devRef .tc main_v8, Proc.devRef .tc main_v19}

theorem early_sub : early ⊆ Pipeline.ucRefs τ sig := by decide
theorem late_sub : late ⊆ Pipeline.ucRefs τ sig \ early := by decide

/-- What a set leaves of the late buffers. -/
def lateB : Finset (DevRef τ sig) := late \ {Proc.devRef .tc main_arg2, Proc.devRef .tc main_v21}
def mlpSet : Finset (DevRef τ sig) := {Proc.devRef .tc main_arg0, Proc.devRef .tc main_v22, Proc.devRef .tc main_v23, Proc.devRef .tc main_v24, Proc.devRef .tc main_v25,
  Proc.devRef .tc main_arg5, Proc.devRef .tc main_v26, Proc.devRef .tc main_arg7, Proc.devRef .tc main_v27, Proc.devRef .tc main_v28}

theorem early_eq (d : Dev nD) (W : Valuation τ sig (Elt F)) : (StableHlo.held (d.tc : Thread nD τ) early W : sProp 𝕄)
    = iprop((tLoc d ↦{fullShare} W (Proc.devRef .tc main_v20)) ∗ (gLoc d ↦{fullShare} W (Proc.devRef .tc main_v8)) ∗ (cLoc d ↦{fullShare} W (Proc.devRef .tc main_v19))) := by
  unfold StableHlo.held
  rw [bigSep_eq_bigSepL_of_eq [Proc.devRef .tc main_v20, Proc.devRef .tc main_v8, Proc.devRef .tc main_v19] (by decide) (by decide)]
  rfl

theorem late_eq (d : Dev nD) (W : Valuation τ sig (Elt F)) : (StableHlo.held (d.tc : Thread nD τ) late W : sProp 𝕄)
    = iprop(((aLoc d main_arg2 ↦{fullShare} W (Proc.devRef .tc main_arg2)) ∗ (oLoc d ↦{fullShare} W (Proc.devRef .tc main_v21)))
      ∗ StableHlo.held (d.tc : Thread nD τ) lateB W) := by
  rw [StableHlo.held_sub_split (d.tc : Thread nD τ) (T := {Proc.devRef .tc main_arg2, Proc.devRef .tc main_v21}) (S := late) (by decide)]
  unfold lateB
  congr 1
  unfold StableHlo.held
  rw [bigSep_eq_bigSepL_of_eq [Proc.devRef .tc main_arg2, Proc.devRef .tc main_v21] (by decide) (by decide)]
  rfl

theorem mlp_eq (d : Dev nD) (W : Valuation τ sig (Elt F)) : (StableHlo.held (d.tc : Thread nD τ) mlpSet W : sProp 𝕄)
    = iprop((aLoc d main_arg0 ↦{fullShare} W (Proc.devRef .tc main_arg0)) ∗ (aLoc d main_v22 ↦{fullShare} W (Proc.devRef .tc main_v22))
      ∗ (aLoc d main_v23 ↦{fullShare} W (Proc.devRef .tc main_v23)) ∗ (aLoc d main_v24 ↦{fullShare} W (Proc.devRef .tc main_v24))
      ∗ (aLoc d main_v25 ↦{fullShare} W (Proc.devRef .tc main_v25)) ∗ (aLoc d main_arg5 ↦{fullShare} W (Proc.devRef .tc main_arg5))
      ∗ (aLoc d main_v26 ↦{fullShare} W (Proc.devRef .tc main_v26)) ∗ (aLoc d main_arg7 ↦{fullShare} W (Proc.devRef .tc main_arg7))
      ∗ (aLoc d main_v27 ↦{fullShare} W (Proc.devRef .tc main_v27)) ∗ (aLoc d main_v28 ↦{fullShare} W (Proc.devRef .tc main_v28))) := by
  unfold StableHlo.held
  rw [bigSep_eq_bigSepL_of_eq [Proc.devRef .tc main_arg0, Proc.devRef .tc main_v22, Proc.devRef .tc main_v23, Proc.devRef .tc main_v24, Proc.devRef .tc main_v25,
    Proc.devRef .tc main_arg5, Proc.devRef .tc main_v26, Proc.devRef .tc main_arg7, Proc.devRef .tc main_v27, Proc.devRef .tc main_v28] (by decide) (by decide)]
  rfl

theorem lateB_V₂ (d : Dev nD) : (StableHlo.held (d.tc : Thread nD τ) lateB (V₂ m v d) : sProp 𝕄) = StableHlo.held (d.tc : Thread nD τ) lateB (V₁ m d) :=
  StableHlo.held_congr _ fun b hb => Function.update_of_ne (by rintro rfl; revert hb; decide) _ _

theorem rest_V₄ (d : Dev nD) : (StableHlo.held (d.tc : Thread nD τ) (late \ mlpSet) (V₄ m v d) : sProp 𝕄) = StableHlo.held (d.tc : Thread nD τ) (late \ mlpSet) (V₃ m v d) :=
  StableHlo.held_congr _ fun b hb => Function.update_of_ne (by rintro rfl; revert hb; decide) _ _

/-- What the launch keeps to the end. -/
abbrev FIN (d : Dev nD) : sProp (MT nD τ sig (HIx 1) (Elt F) ℕ UU ℕ) := StableHlo.held (d.tc : Thread nD τ) late (V₅ m v d)

/-! ## `main` -/

theorem V₂_arg2 (d : Dev nD) : V₂ m v d (Proc.devRef .tc main_arg2) = V₁ m d (Proc.devRef .tc main_arg2) := Function.update_of_ne (by decide) _ _
theorem V₂_v21 (d : Dev nD) : V₂ m v d (Proc.devRef .tc main_v21) = v.R d := Function.update_self _ _ _

theorem mlpIns_eq (d : Dev nD) : (StableHlo.held (d.tc : Thread nD τ) mlpSet (V₃ m v d) : sProp 𝕄) = mlpAll (mlpIn m v) d (mlpIn m v d).o := mlp_eq d _

theorem mlpOuts_eq (d : Dev nD) : mlpAll (mlpIn m v) d (mlpOut (mlpIn m v) (fun c => (K (F := F)).Otc c 1) (8 * 1) d)
    = (StableHlo.held (d.tc : Thread nD τ) mlpSet (V₄ m v d) : sProp 𝕄) := by
  rw [mlp_eq]
  unfold V₄
  rw [Function.update_self]
  iterate 9 rw [Function.update_of_ne (by decide)]
  rfl

theorem pre0_eq (d : Dev nD) (h) : (reg0 (fun c => V₁ m c (Proc.devRef .tc main_arg2)) (fun c => V₁ m c (Proc.devRef .tc main_v20)) (fun c => (K (F := F)).Otc c 0) (8 * 0) h).pre d
    = (iprop((aLoc d main_arg2 ↦{fullShare} V₁ m d (Proc.devRef .tc main_arg2)) ∗ (tLoc d ↦{fullShare} V₁ m d (Proc.devRef .tc main_v20))
      ∗ owesB (F := F) (fun c => (K (F := F)).Otc c 0) (8 * 0) d) : sProp 𝕄) := rfl
theorem post0_eq (d : Dev nD) (h) : (reg0 (fun c => V₁ m c (Proc.devRef .tc main_arg2)) (fun c => V₁ m c (Proc.devRef .tc main_v20)) (fun c => (K (F := F)).Otc c 0) (8 * 0) h).post d
    = (iprop((aLoc d main_arg2 ↦{fullShare} V₁ m d (Proc.devRef .tc main_arg2)) ∗ (∃ T, ⌜(rd0 m d).ArrAt 1 cfg0.N T⌝ ∗ (tLoc d ↦{fullShare} T))
      ∗ owesB (F := F) (fun c => (K (F := F)).Otc c 0) (8 * 0) d) : sProp 𝕄) := rfl
theorem pre2_eq (d : Dev nD) (h) : (reg2 (mlpIn m v) (fun c => (K (F := F)).Otc c 1) (8 * 1) h).pre d
    = (iprop(mlpAll (mlpIn m v) d (mlpIn m v d).o ∗ owesB (F := F) (fun c => (K (F := F)).Otc c 1) (8 * 1) d) : sProp 𝕄) := rfl
theorem post2_eq (d : Dev nD) (h) : (reg2 (mlpIn m v) (fun c => (K (F := F)).Otc c 1) (8 * 1) h).post d
    = (iprop(mlpAll (mlpIn m v) d (mlpOut (mlpIn m v) (fun c => (K (F := F)).Otc c 1) (8 * 1) d) ∗ owesB (F := F) (fun c => (K (F := F)).Otc c 1) (8 * 1) d) : sProp 𝕄) := rfl

/-- What a TensorCore holds before call `n` beside what it owes. -/
def tcRest (d : Dev nD) (n : ℕ) : sProp (MT nD τ sig (HIx 1) (Elt F) ℕ UU ℕ) :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄)
    = iprop(owesB (F := F) (fun c => (K (F := F)).Otc c n) (8 * n) d ∗ tcRest d n) := rfl

set_option backward.isDefEq.respectTransparency.types false in
/-- `main` on a device's TensorCore. -/
theorem hmain [∀ e, Nonempty (Elt F e)] (hv : Fits m v) (κ : GSem nD τ sig → ℕ) (d : Dev nD) :
    iprop((K (F := F)).ctx EH (P v) κ ∗ (K (F := F)).tcSt EH d 0 ∗ (K (F := F)).tcRes m ρ d ∗ (ghostP (F := F) 0 d ∗ ghostP (F := F) 1 d))
      ⊢ wp frame (wpE ((K (F := F)).defs (D (F := F))) 𝒱 (SparseCore.T d) none) Set.univ (main d)
          fun _ => iprop((K (F := F)).tcSt EH d 1 ∗ FIN m v d ∗ (K (F := F)).tcEnd d) := by
  unfold SparseCore.Cfg.tcRes SparseCore.Cfg.tcEnd
  rw [main_eq, show (unscopedBufs d (fun b => m ((SparseCore.T d).loc b)) : sProp 𝕄) = _ from Pipeline.unscopedBufs_held d (V₀ m d)]
  iintro ⟨#Hctx, Hst, ⟨Hb, Hu, Hts, -⟩, Hg0, Hg1⟩
  ihave #Hlev := (SparseCore.Cfg.ctx_levAts κ) $$ Hctx
  iapply (StableHlo.wp_seq 𝒱 none Set.univ d (Pipeline.ucRefs τ sig) _ ops1 ops1_sub ops1_fresh (V₀ m d)) $$ [Hb Hu]
  · isplitl [Hb] <;> iassumption
  iintro ⟨Hb, Hu⟩
  ihave Hu := (Entails.of_eq (show (StableHlo.held (d.tc : Thread nD τ) (Pipeline.ucRefs τ sig) (StableHlo.after ops1 (V₀ m d)) : sProp 𝕄) = iprop(StableHlo.held (d.tc : Thread nD τ) early (V₁ m d) ∗ StableHlo.held (d.tc : Thread nD τ) (Pipeline.ucRefs τ sig \ early) (V₁ m d))
    from StableHlo.held_sub_split (d.tc : Thread nD τ) early_sub (V₁ m d))) $$ Hu
  icases Hu with ⟨He, Hl⟩
  ihave Hl := (Entails.of_eq (StableHlo.held_sub_split (d.tc : Thread nD τ) late_sub (V₁ m d))) $$ Hl
  icases Hl with ⟨Hl, -⟩
  ihave He := (Entails.of_eq (early_eq d (V₁ m d))) $$ He
  icases He with ⟨Ht, HG, HC⟩
  ihave Hl := (Entails.of_eq (late_eq d (V₁ m d))) $$ Hl
  icases Hl with ⟨⟨H2, HX⟩, Hl⟩
  ihave Hst := (Entails.of_eq (tcSt_eq d 0)) $$ Hst
  icases Hst with ⟨HO, Hst⟩
  -- the repack
  rw [wp_bind]
  iapply (call0 (fun c => V₁ m c (Proc.devRef .tc main_arg2)) (fun c => V₁ m c (Proc.devRef .tc main_v20)) d _)
  rw [pre0_eq, post0_eq]
  isplitr [Hb H2 Ht HO Hg0]
  swap
  · isplitl [Hb]; · iexact Hb
    isplitl [H2 Ht HO]
    · isplitl [H2]; · iexact H2
      isplitl [Ht]; · iexact Ht
      iexact HO
    isplitr; · iexact Hlev
    iexact Hg0
  iintro ⟨Hb, H2, ⟨%T, %hT, Ht⟩, HO⟩
  -- the gather
  rw [wp_bind]
  iapply ((K (F := F)).wp_run (D (F := F)) 𝒱 (EH := EH) (P := P v) κ d 0)
  isplitr; · iexact Hctx
  isplitl [HO Hst]
  · iapply (Entails.of_eq (tcSt_eq d 0).symm)
    isplitl [HO] <;> iassumption
  isplitl [Ht HG HC HX]
  · iapply (st_intro v d T (hv.T d T hT))
    rw [hv.G d, hv.C d, hv.X d]
    isplitl [Ht]; · iexact Ht
    isplitl [HG]; · iexact HG
    isplitl [HC]; · iexact HC
    iexact HX
  rw [show ((0 : Fin 1).val + 1) = 1 from rfl]
  iintro ⟨Hst, Hdn⟩
  ihave HX := (dn_elim v d) $$ Hdn
  ihave Hl := (Entails.of_eq (show _ = _ from (late_eq d (V₂ m v d)).symm)) $$ [H2 HX Hl]
  · rw [V₂_arg2, V₂_v21, lateB_V₂]
    isplitl [H2 HX]
    · isplitl [H2] <;> iassumption
    iexact Hl
  -- the host operations between
  iapply (StableHlo.wp_seq 𝒱 none Set.univ d late _ ops2 ops2_sub ops2_fresh (V₂ m v d)) $$ [Hb Hl]
  · isplitl [Hb] <;> iassumption
  iintro ⟨Hb, Hl⟩
  ihave Hl := (Entails.of_eq (show (StableHlo.held (d.tc : Thread nD τ) late (StableHlo.after ops2 (V₂ m v d)) : sProp 𝕄) = iprop(StableHlo.held (d.tc : Thread nD τ) mlpSet (V₃ m v d) ∗ StableHlo.held (d.tc : Thread nD τ) (late \ mlpSet) (V₃ m v d))
    from StableHlo.held_sub_split (d.tc : Thread nD τ) (by decide) (V₃ m v d))) $$ Hl
  icases Hl with ⟨Hm, Hl⟩
  ihave Hm := (Entails.of_eq (mlpIns_eq m v d)) $$ Hm
  ihave Hst := (Entails.of_eq (tcSt_eq d 1)) $$ Hst
  icases Hst with ⟨HO, Hst⟩
  -- the layers
  rw [wp_bind]
  iapply (call2 (mlpIn m v) d _)
  rw [pre2_eq, post2_eq]
  isplitr [Hb Hm HO Hg1]
  swap
  · isplitl [Hb]; · iexact Hb
    isplitl [Hm HO]
    · isplitl [Hm]; · iexact Hm
      iexact HO
    isplitr; · iexact Hlev
    iexact Hg1
  iintro ⟨Hb, Hm, HO⟩
  ihave Hm := (Entails.of_eq (mlpOuts_eq m v d)) $$ Hm
  ihave Hl := (Entails.of_eq (StableHlo.held_sub_split (d.tc : Thread nD τ) (T := mlpSet) (S := late) (by decide) (V₄ m v d)).symm) $$ [Hm Hl]
  · rw [rest_V₄]
    isplitl [Hm] <;> iassumption
  iapply (StableHlo.wp_seq 𝒱 none Set.univ d late _ ops3 ops3_sub ops3_fresh (V₄ m v d)) $$ [Hb Hl]
  · isplitl [Hb] <;> iassumption
  iintro ⟨Hb, Hl⟩
  rw [wp_pure]; imodintro
  isplitl [HO Hst]
  · iapply (Entails.of_eq (tcSt_eq d 1).symm)
    isplitl [HO] <;> iassumption
  isplitl [Hl]; · iexact Hl
  isplitl [Hb] <;> iassumption

/-! ## The run -/

/-- What is read off the final memory. -/
def fq (d : Dev nD) (s' : Phys nD τ sig (Elt F)) : Prop := ∀ b ∈ late, s'.mem.mem (d, b) = V₅ m v d b

theorem hfin (d : Dev nD) (s' : Phys nD τ sig (Elt F)) : iprop(FIN m v d ∗ SI s') ⊢ (⌜fq m v d s'⌝ : sProp 𝕄) := by
  iintro ⟨H, HSI⟩
  unfold FIN StableHlo.held
  ihave %h := (SI_pointsTo_bufs_agree (qs := fun _ => fullShare) late) $$ [HSI H]
  · isplitl [HSI] <;> iassumption
  ipureintro
  exact fun b hb => h b hb

def QC : PUnit × MemSt nD τ sig (Elt F) → Prop := fun r => (∀ (d : Dev nD), ∀ b ∈ late, r.2.mem (d, b) = V₅ m v d b) ∧ r.2.sem = fun _ => 0

theorem run_main [∀ e, Nonempty (Elt F e)] (hv : Fits m v) :
    θ_run (Cert.KernelIdeal.defs (F := F)) (Cert.KernelIdeal.threads (F := F)) ⟨m, fun _ => 0, ρ⟩ (QC m v) :=
  SparseCore.Cfg.θ_run_sc_quiescent (K := K (F := F)) (D := D (F := F)) (𝒱 := 𝒱) (EH := EH) (P := P v) (A := ∅) facts v₀
    (fun q hq => match q with | 0 => nomatch hq)
    (fun q _ => match q with | 0 => tileObl v facts)
    (fun q _ => match q with | 0 => SparseCore.Cfg.VecSplit.of_plain (vecSplit v))
    m ρ main (fun d => iprop(ghostP (F := F) 0 d ∗ ghostP (F := F) 1 d)) (FIN m v) (u₀ (F := F)) (sep_elim_left.trans (hu₀ v)) (hmain m ρ v hv) (fq m v) (hfin m v) (QC m v) (fun _ h hz => ⟨h, hz⟩)

end Cert.Proof.K

end
-- ==== Proof.HostVals.lean ====
/-
  The row numbers and the columns which the host computes.
-/
module

public import proofs.«01_k».proof.Proof.Main
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (v : Vals F)

/-! ## What the host computes, as functions of the categories -/

/-- The row of the repacked table which holds each entry. -/
def rowsOf (a : S16384x26.Idx → BitVec 32) : S32x104x128.Idx → BitVec 32 :=
  shapeCast S32x104x128 (addi (broadcastInDim S16384x26 ![0, 1] bcast_S1x26_S16384x26_0_1 (broadcastInDim S1x26 ![1] bcast_S26_S1x26_1
    (muli (iotaInDim S26 32 0) (broadcastInDim S26 ![] bcast_S_S26 (constantI S_ 32 12528#32)))))
    (Host.shrsi a (broadcastInDim S16384x26 ![] bcast_S_S16384x26 (constantI S_ 32 3#32)))) shapeCasts_S16384x26_S32x104x128

/-- The column of that row at which each number of the entry lies. -/
def colsOf (a : S16384x26.Idx → BitVec 32) : S32x1664x128.Idx → BitVec 32 :=
  shapeCast S32x1664x128 (addi (broadcastInDim S16384x26x16 ![0, 1, 2] bcast_S16384x26x1_S16384x26x16_0_1_2
      (broadcastInDim S16384x26x1 ![0, 1] bcast_S16384x26_S16384x26x1_0_1
        (Host.shli (andi a (broadcastInDim S16384x26 ![] bcast_S_S16384x26 (constantI S_ 32 7#32)))
          (broadcastInDim S16384x26 ![] bcast_S_S16384x26 (constantI S_ 32 4#32)))))
    (broadcastInDim S16384x26x16 ![0, 1, 2] bcast_S1x1x16_S16384x26x16_0_1_2 (broadcastInDim S1x1x16 ![2] bcast_S16_S1x1x16_2 (iotaInDim S16 32 0))))
    shapeCasts_S16384x26x16_S32x1664x128

theorem pos_A : ∀ a, 0 < S16384x26.size a := by decide

/-- The category of pair `n`: row `n / 26`, feature `n % 26`. -/
def catAt (a : S16384x26.Idx → BitVec 32) (n : ℕ) : BitVec 32 := a (ix pos_A ![n / 26, n % 26])

theorem sshr3 (c : BitVec 32) (h : c.toNat < 100000) : (IntOp.shrsi .host c 3#32).toNat = c.toNat / 8 := by
  have h1 : IntOp.shrsi .host c 3#32 = c.sshiftRight 3 := rfl
  have h2 : c.msb = false := by rw [BitVec.msb_eq_decide]; simp; omega
  rw [h1, BitVec.sshiftRight_eq_of_msb_false h2, BitVec.toNat_ushiftRight, Nat.shiftRight_eq_div_pow]

theorem shl4 (c : BitVec 32) : (IntOp.shli .host (IntOp.andi c 7#32) 4#32).toNat = (c.toNat % 8) * 16 := by
  have h1 : IntOp.shli .host (IntOp.andi c 7#32) 4#32 = (c &&& 7#32) <<< 4 := rfl
  have h2 : c.toNat &&& 7 = c.toNat % 8 := Nat.and_two_pow_sub_one_eq_mod c.toNat 3
  rw [h1, BitVec.toNat_shiftLeft, BitVec.toNat_and, show (7#32).toNat = 7 from rfl, h2, Nat.shiftLeft_eq]
  omega

theorem rowsOf_val (a : S16384x26.Idx → BitVec 32) (ha : ∀ j, (a j).toNat < 100000) (x : S32x104x128.Idx) (n : ℕ)
    (hn : n = ((x 0).val * 104 + (x 1).val) * 128 + (x 2).val) : (rowsOf a x).toNat = (n % 26) * 12528 + (catAt a n).toNat / 8 := by
  have h0 : (x 0).val < 32 := (x 0).isLt
  have h1 : (x 1).val < 104 := (x 1).isLt
  have h2 : (x 2).val < 128 := (x 2).isLt
  have hj : Shape.reshapeEquiv shapeCasts_S16384x26_S32x104x128 x = ix pos_A ![n / 26, n % 26] := by
    refine Shape.reshapeEquiv_eq_of_rowMajor _ ?_
    rw [Shape.rowMajor_val_two, Shape.rowMajor_val_three]
    have e0 : (ix pos_A ![n / 26, n % 26] 0).val = n / 26 := ix_val pos_A ![n / 26, n % 26] 0 (show n / 26 < 16384 by omega)
    have e1 : (ix pos_A ![n / 26, n % 26] 1).val = n % 26 := ix_val pos_A ![n / 26, n % 26] 1 (show n % 26 < 26 by omega)
    rw [e0, e1]
    show n / 26 * 26 + n % 26 = ((x 0).val * 104 + (x 1).val) * 128 + (x 2).val
    omega
  have hx : rowsOf a x = IntOp.addi (IntOp.muli (BitVec.ofNat 32 (ix pos_A ![n / 26, n % 26] 1).val) 12528#32) (IntOp.shrsi .host (catAt a n) 3#32) := by
    unfold rowsOf shapeCast catAt
    rw [hj]
    rfl
  have e1 : (ix pos_A ![n / 26, n % 26] 1).val = n % 26 := ix_val pos_A ![n / 26, n % 26] 1 (show n % 26 < 26 by omega)
  have hc := sshr3 (catAt a n) (ha _)
  have hc' : (catAt a n).toNat < 100000 := ha _
  rw [hx, e1]
  show (BitVec.ofNat 32 (n % 26) * 12528#32 + IntOp.shrsi .host (catAt a n) 3#32).toNat = _
  rw [BitVec.toNat_add, BitVec.toNat_mul, hc, BitVec.toNat_ofNat, BitVec.toNat_ofNat]
  omega

theorem pos_E : ∀ a, 0 < S16384x26x16.size a := by decide

theorem colsOf_val (a : S16384x26.Idx → BitVec 32) (x : S32x1664x128.Idx) (e : ℕ)
    (he : e = ((x 0).val * 1664 + (x 1).val) * 128 + (x 2).val) : (colsOf a x).toNat = ((catAt a (e / 16)).toNat % 8) * 16 + e % 16 := by
  have h0 : (x 0).val < 32 := (x 0).isLt
  have h1 : (x 1).val < 1664 := (x 1).isLt
  have h2 : (x 2).val < 128 := (x 2).isLt
  have e0 : (ix pos_E ![e / 16 / 26, e / 16 % 26, e % 16] 0).val = e / 16 / 26 := ix_val pos_E ![e / 16 / 26, e / 16 % 26, e % 16] 0 (show e / 16 / 26 < 16384 by omega)
  have e1 : (ix pos_E ![e / 16 / 26, e / 16 % 26, e % 16] 1).val = e / 16 % 26 := ix_val pos_E ![e / 16 / 26, e / 16 % 26, e % 16] 1 (show e / 16 % 26 < 26 by omega)
  have e2 : (ix pos_E ![e / 16 / 26, e / 16 % 26, e % 16] 2).val = e % 16 := ix_val pos_E ![e / 16 / 26, e / 16 % 26, e % 16] 2 (show e % 16 < 16 by omega)
  have hj : Shape.reshapeEquiv shapeCasts_S16384x26x16_S32x1664x128 x = ix pos_E ![e / 16 / 26, e / 16 % 26, e % 16] := by
    refine Shape.reshapeEquiv_eq_of_rowMajor _ ?_
    rw [Shape.rowMajor_val_three, Shape.rowMajor_val_three]
    rw [e0, e1, e2]
    show (e / 16 / 26 * 26 + e / 16 % 26) * 16 + e % 16 = ((x 0).val * 1664 + (x 1).val) * 128 + (x 2).val
    omega
  have hx : colsOf a x = IntOp.addi (IntOp.shli .host (IntOp.andi (catAt a (e / 16)) 7#32) 4#32) (BitVec.ofNat 32 (ix pos_E ![e / 16 / 26, e / 16 % 26, e % 16] 2).val) := by
    unfold colsOf shapeCast catAt
    rw [hj]
    show IntOp.addi (IntOp.shli .host (IntOp.andi (a _) 7#32) 4#32) (BitVec.ofNat 32 (ix pos_E ![e / 16 / 26, e / 16 % 26, e % 16] 2).val) = _
    congr 4
    congr 1
    funext b
    fin_cases b
    · exact Fin.ext (e0.trans (ix_val pos_A ![e / 16 / 26, e / 16 % 26] 0 (show e / 16 / 26 < 16384 by omega)).symm)
    · exact Fin.ext (e1.trans (ix_val pos_A ![e / 16 / 26, e / 16 % 26] 1 (show e / 16 % 26 < 26 by omega)).symm)
  rw [hx, e2]
  show (IntOp.shli .host (IntOp.andi (catAt a (e / 16)) 7#32) 4#32 + BitVec.ofNat 32 (e % 16)).toNat = _
  rw [BitVec.toNat_add, shl4, BitVec.toNat_ofNat]
  omega

/-! ## The arrays after the host operations -/

theorem V₁_v8 (d : Dev nD) : V₁ m d (Proc.devRef .tc main_v8) = rowsOf (m (d, Proc.devRef .tc main_arg1)) := by
  unfold V₁ ops1
  after_results
  rfl

theorem V₁_v19 (d : Dev nD) : V₁ m d (Proc.devRef .tc main_v19) = colsOf (m (d, Proc.devRef .tc main_arg1)) := by
  unfold V₁ ops1
  after_results
  rfl

theorem V₁_arg2 (d : Dev nD) : V₁ m d (Proc.devRef .tc main_arg2) = m (d, Proc.devRef .tc main_arg2) := by
  unfold V₁ ops1
  after_results
  rfl

theorem V₃_arg0 (d : Dev nD) : V₃ m v d (Proc.devRef .tc main_arg0) = m (d, Proc.devRef .tc main_arg0) := by
  unfold V₃ ops2
  after_results
  refine (Function.update_of_ne (by decide) _ _).trans ?_
  unfold V₁ ops1
  after_results
  rfl
theorem V₅_arg0 (d : Dev nD) : V₅ m v d (Proc.devRef .tc main_arg0) = m (d, Proc.devRef .tc main_arg0) := by
  unfold V₅ ops3
  after_results
  exact (Function.update_of_ne (by decide) _ _).trans (V₃_arg0 m v d)

theorem V₃_arg1 (d : Dev nD) : V₃ m v d (Proc.devRef .tc main_arg1) = m (d, Proc.devRef .tc main_arg1) := by
  unfold V₃ ops2
  after_results
  refine (Function.update_of_ne (by decide) _ _).trans ?_
  unfold V₁ ops1
  after_results
  rfl
theorem V₅_arg1 (d : Dev nD) : V₅ m v d (Proc.devRef .tc main_arg1) = m (d, Proc.devRef .tc main_arg1) := by
  unfold V₅ ops3
  after_results
  exact (Function.update_of_ne (by decide) _ _).trans (V₃_arg1 m v d)

theorem V₃_arg2 (d : Dev nD) : V₃ m v d (Proc.devRef .tc main_arg2) = m (d, Proc.devRef .tc main_arg2) := by
  unfold V₃ ops2
  after_results
  refine (Function.update_of_ne (by decide) _ _).trans ?_
  unfold V₁ ops1
  after_results
  rfl
theorem V₅_arg2 (d : Dev nD) : V₅ m v d (Proc.devRef .tc main_arg2) = m (d, Proc.devRef .tc main_arg2) := by
  unfold V₅ ops3
  after_results
  exact (Function.update_of_ne (by decide) _ _).trans (V₃_arg2 m v d)

theorem V₃_arg3 (d : Dev nD) : V₃ m v d (Proc.devRef .tc main_arg3) = m (d, Proc.devRef .tc main_arg3) := by
  unfold V₃ ops2
  after_results
  refine (Function.update_of_ne (by decide) _ _).trans ?_
  unfold V₁ ops1
  after_results
  rfl
theorem V₅_arg3 (d : Dev nD) : V₅ m v d (Proc.devRef .tc main_arg3) = m (d, Proc.devRef .tc main_arg3) := by
  unfold V₅ ops3
  after_results
  exact (Function.update_of_ne (by decide) _ _).trans (V₃_arg3 m v d)

theorem V₃_arg4 (d : Dev nD) : V₃ m v d (Proc.devRef .tc main_arg4) = m (d, Proc.devRef .tc main_arg4) := by
  unfold V₃ ops2
  after_results
  refine (Function.update_of_ne (by decide) _ _).trans ?_
  unfold V₁ ops1
  after_results
  rfl
theorem V₅_arg4 (d : Dev nD) : V₅ m v d (Proc.devRef .tc main_arg4) = m (d, Proc.devRef .tc main_arg4) := by
  unfold V₅ ops3
  after_results
  exact (Function.update_of_ne (by decide) _ _).trans (V₃_arg4 m v d)

theorem V₃_arg5 (d : Dev nD) : V₃ m v d (Proc.devRef .tc main_arg5) = m (d, Proc.devRef .tc main_arg5) := by
  unfold V₃ ops2
  after_results
  refine (Function.update_of_ne (by decide) _ _).trans ?_
  unfold V₁ ops1
  after_results
  rfl
theorem V₅_arg5 (d : Dev nD) : V₅ m v d (Proc.devRef .tc main_arg5) = m (d, Proc.devRef .tc main_arg5) := by
  unfold V₅ ops3
  after_results
  exact (Function.update_of_ne (by decide) _ _).trans (V₃_arg5 m v d)

theorem V₃_arg6 (d : Dev nD) : V₃ m v d (Proc.devRef .tc main_arg6) = m (d, Proc.devRef .tc main_arg6) := by
  unfold V₃ ops2
  after_results
  refine (Function.update_of_ne (by decide) _ _).trans ?_
  unfold V₁ ops1
  after_results
  rfl
theorem V₅_arg6 (d : Dev nD) : V₅ m v d (Proc.devRef .tc main_arg6) = m (d, Proc.devRef .tc main_arg6) := by
  unfold V₅ ops3
  after_results
  exact (Function.update_of_ne (by decide) _ _).trans (V₃_arg6 m v d)

theorem V₃_arg7 (d : Dev nD) : V₃ m v d (Proc.devRef .tc main_arg7) = m (d, Proc.devRef .tc main_arg7) := by
  unfold V₃ ops2
  after_results
  refine (Function.update_of_ne (by decide) _ _).trans ?_
  unfold V₁ ops1
  after_results
  rfl
theorem V₅_arg7 (d : Dev nD) : V₅ m v d (Proc.devRef .tc main_arg7) = m (d, Proc.devRef .tc main_arg7) := by
  unfold V₅ ops3
  after_results
  exact (Function.update_of_ne (by decide) _ _).trans (V₃_arg7 m v d)

theorem V₃_arg8 (d : Dev nD) : V₃ m v d (Proc.devRef .tc main_arg8) = m (d, Proc.devRef .tc main_arg8) := by
  unfold V₃ ops2
  after_results
  refine (Function.update_of_ne (by decide) _ _).trans ?_
  unfold V₁ ops1
  after_results
  rfl
theorem V₅_arg8 (d : Dev nD) : V₅ m v d (Proc.devRef .tc main_arg8) = m (d, Proc.devRef .tc main_arg8) := by
  unfold V₅ ops3
  after_results
  exact (Function.update_of_ne (by decide) _ _).trans (V₃_arg8 m v d)

theorem V₃_v22 (d : Dev nD) : V₃ m v d (Proc.devRef .tc main_v22) = shapeCast S16384x416 (v.R d) shapeCasts_S32x26x64x128_S16384x416 := by
  unfold V₃ ops2
  after_results
  rw [V₂_v21]
  rfl

theorem V₅_v29 (d : Dev nD) : V₅ m v d (Proc.devRef .tc main_v29)
    = shapeCast S16384 (mlpOut (mlpIn m v) (fun c => (K (F := F)).Otc c 1) (8 * 1) d) shapeCasts_S16384x1_S16384 := by
  unfold V₅ ops3
  after_results
  rw [show V₄ m v d (Proc.devRef .tc main_v28) = _ from Function.update_self _ _ _]
  rfl

end Cert.Proof.K
-- ==== Proof.RepackMath.lean ====
/-
  The repacked table: every number of every table lies where the row numbers and the columns say.
-/
module

public import proofs.«01_k».proof.Proof.Pay0
public import proofs.«01_k».proof.Proof.HostVals
public import Idealize.ShloMosaic.Lib.Pipeline.Covers
public import Idealize.ShloMosaic.Lib.Pipeline.ValueKit
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (A : (c : Dev nD) → S26x100001x16.Idx → Elt F .f32) (X0 : (c : Dev nD) → S325728x128.Idx → Elt F .f32)
variable (O : (c : Dev nD) → CellTallies nD τ sig (HIx 1)) (B : ℕ)

theorem idx0_0 (t : Fin grid0.N) : win0_0.index t = ![(grid0.coords t 0).val, (grid0.coords t 1).val, 0] := by
  have h0 : (grid0.coords t 0).val < 26 := (grid0.coords t 0).isLt
  have h1 : (grid0.coords t 1).val < 27 := (grid0.coords t 1).isLt
  show cc0_transform_0 (grid0.coords t) = _
  unfold cc0_transform_0
  simp only [BitVec.toNat_ofNat]
  rw [Nat.mod_eq_of_lt (by omega), Nat.mod_eq_of_lt (by omega)]

theorem idx0_1 (t : Fin grid0.N) : win0_1.index t = ![(grid0.coords t 0).val * 27 + (grid0.coords t 1).val, 0] := by
  have h0 : (grid0.coords t 0).val < 26 := (grid0.coords t 0).isLt
  have h1 : (grid0.coords t 1).val < 27 := (grid0.coords t 1).isLt
  show cc0_transform_1 (grid0.coords t) = _
  unfold cc0_transform_1
  simp only [Scalar.muli, Scalar.addi, IntOp.muli, IntOp.addi, BitVec.toNat_add, BitVec.toNat_mul, BitVec.toNat_ofNat]
  rw [show (((grid0.coords t 0).val % 2 ^ 32 * (27 % 2 ^ 32)) % 2 ^ 32 + (grid0.coords t 1).val % 2 ^ 32) % 2 ^ 32 = (grid0.coords t 0).val * 27 + (grid0.coords t 1).val by omega]

/-- What a point's block holds of the table, at a place within the table. -/
theorem fill0_at (A : S26x100001x16.Idx → Elt F .f32) (t : Fin cfg0.N) (d : S1x3712x16.Idx → Elt F .f32) (k : Fin 3712) (l : Fin 16)
    (h : (grid0.coords t 1).val * 3712 + k.val < 100001) :
    fill0 A t d (ix3 0 k l) = A (ix3 ⟨(grid0.coords t 0).val, (grid0.coords t 0).isLt⟩ ⟨(grid0.coords t 1).val * 3712 + k.val, h⟩ l) := by
  have hi0 : cc0_transform_0 (grid0.coords t) 0 = (grid0.coords t 0).val := congrFun (idx0_0 t) 0
  have hi1 : cc0_transform_0 (grid0.coords t) 1 = (grid0.coords t 1).val := congrFun (idx0_0 t) 1
  have hi2 : cc0_transform_0 (grid0.coords t) 2 = 0 := congrFun (idx0_0 t) 2
  have h0 : (grid0.coords t 0).val < 26 := (grid0.coords t 0).isLt
  unfold fill0 Pipeline.Window.fill
  have hm : win0_0.moved (grid0.coords t) (ix3 0 k l) = true := by
    rw [Pipeline.Window.moved_iff]
    intro a
    match a with
    | ⟨0, _⟩ =>
      show 0 < (Pipeline.Clip.of (cc0_transform_0 (grid0.coords t) 0) 1 26).extent 1
      unfold Pipeline.Clip.of; split
      · exact Nat.one_pos
      · show 0 < 26 - cc0_transform_0 (grid0.coords t) 0 * 1
        omega
    | ⟨1, _⟩ =>
      show k.val < (Pipeline.Clip.of (cc0_transform_0 (grid0.coords t) 1) 3712 100001).extent 3712
      unfold Pipeline.Clip.of; split
      · exact k.isLt
      · show k.val < 100001 - cc0_transform_0 (grid0.coords t) 1 * 3712
        omega
    | ⟨2, _⟩ =>
      show l.val < (Pipeline.Clip.of (cc0_transform_0 (grid0.coords t) 2) 16 16).extent 16
      unfold Pipeline.Clip.of; split
      · exact l.isLt
      · show l.val < 16 - cc0_transform_0 (grid0.coords t) 2 * 16
        omega
  refine (dif_pos hm).trans ?_
  refine congrArg A (funext fun a => Fin.ext ?_)
  refine (Pipeline.Window.rect_emb_val win0_0 t _ a).trans ?_
  rw [idx0_0]
  match a with
  | ⟨0, _⟩ => show (grid0.coords t 0).val * 1 + 0 = (grid0.coords t 0).val; omega
  | ⟨1, _⟩ => rfl
  | ⟨2, _⟩ => show 0 * 16 + l.val = l.val; omega

theorem covers0_1 : (cfg0.win 1).Covers := by
  refine (cfg0.win 1).covers_of_indexMap_surj rfl (by decide) fun β => ?_
  have hb : (β (0 : Fin 2)).val < 702 := lt_of_lt_of_eq (β (0 : Fin 2)).isLt (by decide)
  have hb1 : (β (1 : Fin 2)).val < 1 := lt_of_lt_of_eq (β (1 : Fin 2)).isLt (by decide)
  let i : grid0.Coords := fun a => match a with
    | ⟨0, _⟩ => ⟨(β (0 : Fin 2)).val / 27, show _ < 26 by omega⟩
    | ⟨1, _⟩ => ⟨(β (0 : Fin 2)).val % 27, show _ < 27 by omega⟩
  obtain ⟨t, ht⟩ := grid0.coords_surjective i
  refine ⟨i, fun a => ?_⟩
  have e : cc0_transform_1 i = ![(i 0).val * 27 + (i 1).val, 0] := by rw [← ht]; exact idx0_1 t
  match a with
  | ⟨0, _⟩ =>
    refine (congrFun e 0).trans ?_
    show (β (0 : Fin 2)).val / 27 * 27 + (β (0 : Fin 2)).val % 27 = (β (0 : Fin 2)).val
    omega
  | ⟨1, _⟩ =>
    refine (congrFun e 1).trans ?_
    show 0 = (β (1 : Fin 2)).val
    omega

/-- Where the repacked table holds number `l` of entry `v` of table `i`. -/
def Repacked (A : S26x100001x16.Idx → Elt F .f32) (T : S325728x128.Idx → Elt F .f32) : Prop :=
  ∀ (x : S325728x128.Idx) (i : Fin 26) (v : Fin 100001) (l : Fin 16), (x 0).val = i.val * 12528 + v.val / 8 → (x 1).val = v.val % 8 * 16 + l.val →
    T x = A (ix3 i v l)

theorem repacked [∀ e, Nonempty (Elt F e)] (c : Dev nD) (T : S325728x128.Idx → Elt F .f32) (hT : (rdat0 A X0 O B c).ArrAt 1 cfg0.N T) : Repacked (A c) T := by
  obtain ⟨X, hX, hA⟩ := hT.exists_exact
  have hA' := hA (Function.update (fun _ _ _ => Classical.arbitrary _) 1 X) fun _ _ _ => by rw [Function.update_self]
  intro x
  rw [hA']
  refine Pipeline.Dat.arrAt_forall_of_covers ((rdat0 A X0 O B c).withAfter _) 1
    (fun x y => ∀ (i : Fin 26) (v : Fin 100001) (l : Fin 16), (x 0).val = i.val * 12528 + v.val / 8 → (x 1).val = v.val % 8 * 16 + l.val → y = A c (ix3 i v l))
    covers0_1 (fun t hf y i v l e0 e1 => ?_) x
  obtain ⟨_, _, hX'⟩ := hX t t.isLt hf
  obtain ⟨d, hd⟩ := (show ∃ d, X t = k0_pay1 (fill0 (A c) t d) from hX')
  have hy0 : (y (0 : Fin 2)).val < 464 := (y (0 : Fin 2)).isLt
  have hy1 : (y (1 : Fin 2)).val < 128 := (y (1 : Fin 2)).isLt
  have h0 : (grid0.coords t 0).val < 26 := (grid0.coords t 0).isLt
  have h1 : (grid0.coords t 1).val < 27 := (grid0.coords t 1).isLt
  have i0 : win0_1.index t 0 = (grid0.coords t 0).val * 27 + (grid0.coords t 1).val := congrFun (idx0_1 t) 0
  have i1 : win0_1.index t 1 = 0 := congrFun (idx0_1 t) 1
  have e0' : win0_1.index t 0 * 464 + (y (0 : Fin 2)).val = i.val * 12528 + v.val / 8 := (Pipeline.Window.rect_emb_val win0_1 t y 0).symm.trans e0
  have e1' : win0_1.index t 1 * 128 + (y (1 : Fin 2)).val = v.val % 8 * 16 + l.val := (Pipeline.Window.rect_emb_val win0_1 t y 1).symm.trans e1
  rw [i0] at e0'
  rw [i1] at e1'
  have hv := v.isLt
  have hl := l.isLt
  have hi : (grid0.coords t 0).val = i.val := by omega
  have hv' : (grid0.coords t 1).val * 3712 + ((y (0 : Fin 2)).val * 8 + (y (1 : Fin 2)).val / 16) = v.val := by omega
  have hl' : (y (1 : Fin 2)).val % 16 = l.val := by omega
  show (Function.update (fun _ _ _ => Classical.arbitrary _) 1 X : (w' : Fin 2) → Fin cfg0.N → (cfg0.win w').block.Idx → Elt F (cfg0.win w').elt) 1 t (win0_1.xinj (grid0.coords t) y) = _
  rw [Function.update_self, hd]
  refine Eq.trans (show k0_pay1 (fill0 (A c) t d) _ = k0_pay1 (fill0 (A c) t d) (ix2 ⟨(y (0 : Fin 2)).val, hy0⟩ ⟨(y (1 : Fin 2)).val, hy1⟩) from
    congrArg _ (eq_ix2 _)) ?_
  rw [k0_pay1_at]
  rw [fill0_at (A c) t d _ _ (by show _ + ((y (0 : Fin 2)).val * 8 + (y (1 : Fin 2)).val / 16) < 100001; omega)]
  refine congrArg (A c) ?_
  rw [show (⟨(grid0.coords t 0).val, (grid0.coords t 0).isLt⟩ : Fin 26) = i from Fin.ext hi,
    show (⟨(y (1 : Fin 2)).val % 16, by omega⟩ : Fin 16) = l from Fin.ext hl']
  exact congrArg (fun v => ix3 i v l) (Fin.ext hv')

end Cert.Proof.K
-- ==== Proof.GatherMath.lean ====
/-
  What the tiles gather: for every row and feature, the sixteen numbers of its category.
-/
module

public import proofs.«01_k».proof.Proof.RepackMath
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem pos_S2 : ∀ a, 0 < S26x100001x16.size a := by decide

/-- Number `e` of the gathered array, counted in order: number `e % 16` of the entry of pair `e / 16`. -/
def embAt (A : S26x100001x16.Idx → Elt F .f32) (a : S16384x26.Idx → BitVec 32) (e : ℕ) : Elt F .f32 :=
  A (ix pos_S2 ![e / 16 % 26, (catAt a (e / 16)).toNat, e % 16])

/-- The gathered array. -/
def embOf (A : S26x100001x16.Idx → Elt F .f32) (a : S16384x26.Idx → BitVec 32) : S32x26x64x128.Idx → Elt F .f32 := fun x =>
  embAt A a ((((x 0).val * 26 + (x 1).val) * 64 + (x 2).val) * 128 + (x 3).val)

theorem out_eq (A : S26x100001x16.Idx → Elt F .f32) (a : S16384x26.Idx → BitVec 32) (ha : ∀ j, (a j).toNat < 100000)
    (T : S325728x128.Idx → Elt F .f32) (hT : Repacked A T) : OUT T (rowsOf a) (colsOf a) = embOf A a := by
  funext x
  have h0 : (x 0).val < 32 := (x 0).isLt
  have h1 : (x 1).val < 26 := (x 1).isLt
  have h2 : (x 2).val < 64 := (x 2).isLt
  have h3 : (x 3).val < 128 := (x 3).isLt
  unfold OUT OUTV BUF embOf embAt
  have v0 : (ix pos_V ![(x 2).val, (x 3).val] 0).val = (x 2).val := ix_val pos_V ![(x 2).val, (x 3).val] 0 h2
  have v1 : (ix pos_V ![(x 2).val, (x 3).val] 1).val = (x 3).val := ix_val pos_V ![(x 2).val, (x 3).val] 1 h3
  rw [v0, v1]
  generalize hr : (x 2).val * 8 + (x 3).val / 16 = r
  have hr' : r < 512 := by omega
  generalize he : (((x 0).val * 26 + (x 1).val) * 64 + (x 2).val) * 128 + (x 3).val = e
  have c0 : (ix pos_C ![(x 0).val, 64 * (x 1).val + (x 2).val, (x 3).val] 0).val = (x 0).val := ix_val pos_C ![(x 0).val, 64 * (x 1).val + (x 2).val, (x 3).val] 0 h0
  have c1 : (ix pos_C ![(x 0).val, 64 * (x 1).val + (x 2).val, (x 3).val] 1).val = 64 * (x 1).val + (x 2).val :=
    ix_val pos_C ![(x 0).val, 64 * (x 1).val + (x 2).val, (x 3).val] 1 (show 64 * (x 1).val + (x 2).val < 1664 by omega)
  have c2 : (ix pos_C ![(x 0).val, 64 * (x 1).val + (x 2).val, (x 3).val] 2).val = (x 3).val := ix_val pos_C ![(x 0).val, 64 * (x 1).val + (x 2).val, (x 3).val] 2 h3
  rw [colsOf_val a _ e (by rw [c0, c1, c2]; omega)]
  generalize hq : (catAt a (e / 16)).toNat % 8 * 16 + e % 16 = q
  have hq' : q < 128 := by omega
  have b0 : (ix pos_B ![r, q] 0).val = r := ix_val pos_B ![r, q] 0 hr'
  have b1 : (ix pos_B ![r, q] 1).val = q := ix_val pos_B ![r, q] 1 hq'
  rw [b0, b1]
  have g0 : (ix pos_G ![(x 0).val, 4 * (x 1).val + r / 128, r % 128] 0).val = (x 0).val := ix_val pos_G ![(x 0).val, 4 * (x 1).val + r / 128, r % 128] 0 h0
  have g1 : (ix pos_G ![(x 0).val, 4 * (x 1).val + r / 128, r % 128] 1).val = 4 * (x 1).val + r / 128 :=
    ix_val pos_G ![(x 0).val, 4 * (x 1).val + r / 128, r % 128] 1 (show 4 * (x 1).val + r / 128 < 104 by omega)
  have g2 : (ix pos_G ![(x 0).val, 4 * (x 1).val + r / 128, r % 128] 2).val = r % 128 :=
    ix_val pos_G ![(x 0).val, 4 * (x 1).val + r / 128, r % 128] 2 (show r % 128 < 128 by omega)
  rw [rowsOf_val a ha _ (e / 16) (by rw [g0, g1, g2]; omega)]
  have hc : (catAt a (e / 16)).toNat < 100000 := ha _
  rw [hT (ix pos_T ![e / 16 % 26 * 12528 + (catAt a (e / 16)).toNat / 8, q]) ⟨e / 16 % 26, by omega⟩ ⟨(catAt a (e / 16)).toNat, by omega⟩ ⟨e % 16, by omega⟩
    (ix_val pos_T ![e / 16 % 26 * 12528 + (catAt a (e / 16)).toNat / 8, q] 0 (show e / 16 % 26 * 12528 + (catAt a (e / 16)).toNat / 8 < 325728 by omega))
    ((ix_val pos_T ![e / 16 % 26 * 12528 + (catAt a (e / 16)).toNat / 8, q] 1 (show q < 128 from hq')).trans hq.symm)]
  refine congrArg A (funext fun b => Fin.ext ?_)
  match b with
  | ⟨0, _⟩ => exact (ix_val pos_S2 ![e / 16 % 26, (catAt a (e / 16)).toNat, e % 16] 0 (show e / 16 % 26 < 26 by omega)).symm
  | ⟨1, _⟩ => exact (ix_val pos_S2 ![e / 16 % 26, (catAt a (e / 16)).toNat, e % 16] 1 (show (catAt a (e / 16)).toNat < 100001 by omega)).symm
  | ⟨2, _⟩ => exact (ix_val pos_S2 ![e / 16 % 26, (catAt a (e / 16)).toNat, e % 16] 2 (show e % 16 < 16 by omega)).symm

theorem rowsOf_lt (a : S16384x26.Idx → BitVec 32) (ha : ∀ j, (a j).toNat < 100000) (x) : (rowsOf a x).toNat < 325728 := by
  rw [rowsOf_val a ha x _ rfl]
  have hc : (catAt a ((((x 0).val * 104 + (x 1).val) * 128 + (x 2).val))).toNat < 100000 := ha _
  omega

theorem colsOf_lt (a : S16384x26.Idx → BitVec 32) (x) : (colsOf a x).toNat < 128 := by
  rw [colsOf_val a x _ rfl]
  omega

variable (m : (ℓ : Loc nD τ sig) → Buf (Elt F) ℓ)

/-- Every category is a category of its table. -/
def InVocab : Prop := ∀ (d : Dev nD) (j : S16384x26.Idx), ((m (d, Proc.devRef .tc main_arg1) : S16384x26.Idx → BitVec 32) j).toNat < 100000

/-- The values of a launch. -/
def vals (hok : InVocab m) : Vals F where
  G d := rowsOf (m (d, Proc.devRef .tc main_arg1))
  C d := colsOf (m (d, Proc.devRef .tc main_arg1))
  X d := V₁ m d (Proc.devRef .tc main_v21)
  R d := embOf (m (d, Proc.devRef .tc main_arg2)) (m (d, Proc.devRef .tc main_arg1))
  TR d T := Repacked (m (d, Proc.devRef .tc main_arg2)) T
  hG d x := rowsOf_lt _ (hok d) x
  hC d x := colsOf_lt _ x
  hR d T hT := out_eq _ _ (hok d) T hT

theorem fits [∀ e, Nonempty (Elt F e)] (hok : InVocab m) : Fits m (vals m hok) where
  G d := (V₁_v8 m d).symm
  C d := (V₁_v19 m d).symm
  X _ := rfl
  T d T hT := by
    have := repacked _ _ _ _ d T hT
    rw [V₁_arg2] at this
    exact this

end Cert.Proof.K
-- ==== Proof.Frames.lean ====
/-
  The frames: every execution ends, with the arguments as they were and every counter at zero.
-/
module

public import proofs.«01_k».proof.Defs
public import proofs.«01_k».proof.Proof.Gen.Kernel
public import proofs.«01_k».proof.Proof.Gen.Pre_in_vocab
public import proofs.«01_k».proof.Proof.GatherMath
public import Idealize.ShloMosaic.Lib.ReduceAll
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The precondition, read at one category. -/
theorem inVocab_of (a0 : FVec F Pre_in_vocab.S16384x13 .f32) (a1 : IVec Pre_in_vocab.S16384x26 32) (a2 : FVec F Pre_in_vocab.S26x100001x16 .f32)
    (a3 : FVec F Pre_in_vocab.S429x64 .f32) (a4 : FVec F Pre_in_vocab.S64 .f32) (a5 : FVec F Pre_in_vocab.S64x32 .f32) (a6 : FVec F Pre_in_vocab.S32 .f32)
    (a7 : FVec F Pre_in_vocab.S32x1 .f32) (a8 : FVec F Pre_in_vocab.S1 .f32)
    (h : Pre_in_vocab.fn (F := F) a0 a1 a2 a3 a4 a5 a6 a7 a8 = fun _ => 1#1) (j : Pre_in_vocab.S16384x26.Idx) :
    (a1 j).toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 100000#32) = 1#1 → v.toNat < 100000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  dsimp only [Pre_in_vocab.fn] at h
  haveI : Subsingleton Pre_in_vocab.S_.Idx := ⟨fun x y => funext fun a => a.elim0⟩
  exact key _ (Host.reduce_andi_all _ _ _ _ _ (congrFun h (fun a => a.elim0)) j)

set_option maxHeartbeats 4000000

/-- What a run leaves, read at the claim's buffers: the result, and the arguments as they were. -/
theorem ends [∀ e, Nonempty (Elt F e)] (m : (ℓ : Loc nD τ sig) → Buf (Elt F) ℓ) (ρ : Dev nD → PrngReg) (hok : InVocab m) :
    θ_run (Cert.KernelIdeal.defs (F := F)) (Cert.KernelIdeal.threads (F := F)) ⟨m, fun _ => 0, ρ⟩ fun r =>
      (∀ c : Dev nD, r.2.mem ((c.tc : Thread nD τ).loc main_v29)
          = shapeCast S16384 (mlpOut (mlpIn m (vals m hok)) (fun c => (K (F := F)).Otc c 1) (8 * 1) c) shapeCasts_S16384x1_S16384
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0 := by
  refine (θ_run _ _ _).mono (fun r h => ⟨fun c => ?_, h.2⟩) (run_main m ρ (vals m hok) (fits m hok))
  exact ⟨(h.1 c (Proc.devRef .tc main_v29) (by decide)).trans (V₅_v29 m _ c),
    (h.1 c (Proc.devRef .tc main_arg0) (by decide)).trans (V₅_arg0 m _ c),
    (h.1 c (Proc.devRef .tc main_arg1) (by decide)).trans (V₅_arg1 m _ c),
    (h.1 c (Proc.devRef .tc main_arg2) (by decide)).trans (V₅_arg2 m _ c),
    (h.1 c (Proc.devRef .tc main_arg3) (by decide)).trans (V₅_arg3 m _ c),
    (h.1 c (Proc.devRef .tc main_arg4) (by decide)).trans (V₅_arg4 m _ c),
    (h.1 c (Proc.devRef .tc main_arg5) (by decide)).trans (V₅_arg5 m _ c),
    (h.1 c (Proc.devRef .tc main_arg6) (by decide)).trans (V₅_arg6 m _ c),
    (h.1 c (Proc.devRef .tc main_arg7) (by decide)).trans (V₅_arg7 m _ c),
    (h.1 c (Proc.devRef .tc main_arg8) (by decide)).trans (V₅_arg8 m _ c)⟩

theorem ok_Kernel (m : (ℓ : Loc nD τ sig) → Buf (Elt Bits) ℓ) (h : Cert.Pre_Kernel (hPre_in_vocab := Cert.Pre_in_vocab.Gen.facts) m) : InVocab (F := Bits) m :=
  fun d j => inVocab_of (F := Bits) _ _ _ _ _ _ _ _ _ (h d) j

theorem ok_KernelIdeal (m : (ℓ : Loc nD τ sig) → Buf (Elt Ideal) ℓ) (h : Cert.Pre_KernelIdeal (hPre_in_vocab := Cert.Pre_in_vocab.Gen.facts) m) : InVocab (F := Ideal) m :=
  fun d j => inVocab_of (F := Ideal) _ _ _ _ _ _ _ _ _ (h d) j

/-- The two body tables are one, case by case. -/
theorem tables₀ : Cert.Kernel.defs₀ (F := Bits) = Cert.KernelIdeal.defs₀ (F := Bits) := by
  funext p l a
  cases p with
  | tc =>
    match l, a with
    | 0, (t, s) => rfl
    | 1, a => rfl
    | 2, (t, s) => rfl
  | scScalar c =>
    match l, a with
    | 0, a => rfl
    | 1, a => rfl
    | 2, a => rfl
  | scVector c s =>
    match l, a with
    | 0, a => rfl
    | 1, a => rfl
    | 2, a => rfl

/-- The two programs' tables with their pipelines and dispatch. -/
theorem tables : Cert.Kernel.defs (F := Bits) = Cert.KernelIdeal.defs (F := Bits) :=
  congrArg (fun D => (Cert.KernelIdeal.sc (F := Bits)).defs (Pipeline.defs (Cert.KernelIdeal.pcfgs (F := Bits)) D)) tables₀

theorem mains : Cert.Kernel.main (F := Bits) = Cert.KernelIdeal.main (F := Bits) := rfl

theorem programs : Cert.Kernel.threads (F := Bits) = Cert.KernelIdeal.threads (F := Bits) :=
  congrArg (fun M => (Cert.KernelIdeal.sc (F := Bits)).threads M) mains

theorem frame_Kernel : Cert.quiescent_Kernel (hKernel := Cert.Kernel.Gen.facts) (hPre_in_vocab := Cert.Pre_in_vocab.Gen.facts) := by
  intro m ρ hpre
  rw [tables, programs]
  exact (θ_run (Cert.KernelIdeal.defs (F := Bits)) _ _).mono (fun r h => ⟨fun c => (h.1 c).2, h.2⟩) (ends (F := Bits) m ρ (ok_Kernel m hpre))

theorem frame_KernelIdeal : Cert.quiescent_KernelIdeal (hKernelIdeal := Cert.KernelIdeal.Gen.facts) (hPre_in_vocab := Cert.Pre_in_vocab.Gen.facts) := fun m ρ hpre =>
  (θ_run (Cert.KernelIdeal.defs (F := Ideal)) _ _).mono (fun _ h => ⟨fun c => (h.1 c).2, h.2⟩) (ends (F := Ideal) m ρ (ok_KernelIdeal m hpre))

end Cert.Proof.K
-- ==== Proof.RefFrames.lean ====
/- The reference's frames: it is host operations only, so its generated run gives the arguments, and it declares no
   semaphore. -/
module

public import proofs.«01_k».proof.Defs
public import proofs.«01_k».proof.Proof.Gen.ReferenceIdeal
public import proofs.«01_k».proof.Proof.Gen.ReferenceIdeal.Run
public import proofs.«01_k».proof.Proof.Gen.Pre_in_vocab
public import Idealize.ShloMosaic.Lib.Quiescent

@[expose] public section

noncomputable section

namespace Cert.Proof.K

open Idealize.ShloMosaic Idealize.SL.Sem

theorem frame_ReferenceIdeal : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem frame_ReferenceIdeal_pre : Cert.quiescent_ReferenceIdeal_pre_in_vocab (hReferenceIdeal := Cert.ReferenceIdeal.Gen.facts)
    (hPre_in_vocab := Cert.Pre_in_vocab.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Proof.K

end
-- ==== Proof.Pay2.lean ====
/-
  The last call's block at an index: the three layers of one row.
-/
module

public import proofs.«01_k».proof.Proof.Common
public import Idealize.ShloMosaic.Lib.Pointwise

@[expose] public section

noncomputable section

namespace Cert.Proof.K

open Cert.KernelIdeal Cert.KernelIdeal.Gen
open Idealize.ShloMosaic

set_option maxRecDepth 16384 in
theorem k2_pay1_at (X : S2048x13.Idx → Elt Ideal .f32) (W : S13x64.Idx → Elt Ideal .f32) (E : S2048x416.Idx → Elt Ideal .f32) (U : S416x64.Idx → Elt Ideal .f32)
    (b1 : S1x64.Idx → Elt Ideal .f32) (w2 : S64x32.Idx → Elt Ideal .f32) (b2 : S1x32.Idx → Elt Ideal .f32) (w3 : S32x1.Idx → Elt Ideal .f32) (b3 : S1x1.Idx → Elt Ideal .f32)
    (r : Fin 2048) (q : Fin 1) :
    k2_pay1 (F := Ideal) X W E U b1 w2 b2 w3 b3 (ix2 r q)
      = ∑ q' : Fin 32, max (∑ p : Fin 64, max (∑ k : Fin 13, X (ix2 r k) * W (ix2 k p) + ∑ k : Fin 416, E (ix2 r k) * U (ix2 k p) + b1 (ix2 0 p)) 0
          * w2 (ix2 p q') + b2 (ix2 0 q')) 0 * w3 (ix2 q' q) + b3 (ix2 0 0) := by
  pointwise [k2_pay1]

end Cert.Proof.K

end
-- ==== Proof.MlpMath.lean ====
/-
  The last call: every row of its result is the three layers of its row of the inputs.
-/
module

public import proofs.«01_k».proof.Proof.Main
public import proofs.«01_k».proof.Proof.Pay2
public import Idealize.ShloMosaic.Lib.Pipeline.Covers
public import Idealize.ShloMosaic.Lib.Pipeline.ValueKit
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (I : Dev nD → MlpIn Ideal) (O : (c : Dev nD) → CellTallies nD τ sig (HIx 1)) (B : ℕ)

theorem idx2_0 (t : Fin grid2.N) : win2_0.index t = ![(grid2.coords t 0).val, 0] := by
  have h0 : (grid2.coords t 0).val < 8 := (grid2.coords t 0).isLt
  show cc2_transform_0 (grid2.coords t) = _
  unfold cc2_transform_0
  simp only [BitVec.toNat_ofNat]
  rw [Nat.mod_eq_of_lt (by omega)]

theorem idx2_1 (t : Fin grid2.N) : win2_1.index t = ![(grid2.coords t 0).val, 0] := by
  have h0 : (grid2.coords t 0).val < 8 := (grid2.coords t 0).isLt
  show cc2_transform_1 (grid2.coords t) = _
  unfold cc2_transform_1
  simp only [BitVec.toNat_ofNat]
  rw [Nat.mod_eq_of_lt (by omega)]

theorem idx2_9 (t : Fin grid2.N) : win2_9.index t = ![(grid2.coords t 0).val, 0] := by
  have h0 : (grid2.coords t 0).val < 8 := (grid2.coords t 0).isLt
  show cc2_transform_9 (grid2.coords t) = _
  unfold cc2_transform_9
  simp only [BitVec.toNat_ofNat]
  rw [Nat.mod_eq_of_lt (by omega)]

theorem blk2_0 (c : Dev nD) (t : Fin cfg2.N) (r : Fin 2048) (k : Fin 13) (b : Fin 16384) (hb : b.val = (grid2.coords t 0).val * 2048 + r.val) :
    blk2 I c 0 t (ix2 r k) = (I c).x (ix2 b k) := by
  refine congrArg (I c).x (funext fun a => Fin.ext ?_)
  refine (Pipeline.Window.rect_emb_val win2_0 t (ix2 r k) a).trans ?_
  rw [idx2_0]
  match a with
  | ⟨0, _⟩ => exact hb.symm
  | ⟨1, _⟩ => show 0 * 13 + k.val = k.val; omega

theorem blk2_1 (c : Dev nD) (t : Fin cfg2.N) (r : Fin 2048) (k : Fin 416) (b : Fin 16384) (hb : b.val = (grid2.coords t 0).val * 2048 + r.val) :
    blk2 I c 1 t (ix2 r k) = (I c).e (ix2 b k) := by
  refine congrArg (I c).e (funext fun a => Fin.ext ?_)
  refine (Pipeline.Window.rect_emb_val win2_1 t (ix2 r k) a).trans ?_
  rw [idx2_1]
  match a with
  | ⟨0, _⟩ => exact hb.symm
  | ⟨1, _⟩ => show 0 * 416 + k.val = k.val; omega

theorem blk2_2 (c : Dev nD) (t : Fin cfg2.N) : blk2 I c 2 t = (I c).wx := by
  funext y
  refine congrArg (I c).wx (funext fun a => Fin.ext ?_)
  refine (Pipeline.Window.rect_emb_val win2_2 t y a).trans ?_
  match a with
  | ⟨0, _⟩ => show 0 * 13 + (y 0).val = (y 0).val; omega
  | ⟨1, _⟩ => show 0 * 64 + (y 1).val = (y 1).val; omega

theorem blk2_3 (c : Dev nD) (t : Fin cfg2.N) : blk2 I c 3 t = (I c).we := by
  funext y
  refine congrArg (I c).we (funext fun a => Fin.ext ?_)
  refine (Pipeline.Window.rect_emb_val win2_3 t y a).trans ?_
  match a with
  | ⟨0, _⟩ => show 0 * 416 + (y 0).val = (y 0).val; omega
  | ⟨1, _⟩ => show 0 * 64 + (y 1).val = (y 1).val; omega

theorem blk2_4 (c : Dev nD) (t : Fin cfg2.N) : blk2 I c 4 t = (I c).b1 := by
  funext y
  refine congrArg (I c).b1 (funext fun a => Fin.ext ?_)
  refine (Pipeline.Window.rect_emb_val win2_4 t y a).trans ?_
  match a with
  | ⟨0, _⟩ => show 0 * 1 + (y 0).val = (y 0).val; omega
  | ⟨1, _⟩ => show 0 * 64 + (y 1).val = (y 1).val; omega

theorem blk2_5 (c : Dev nD) (t : Fin cfg2.N) : blk2 I c 5 t = (I c).w2 := by
  funext y
  refine congrArg (I c).w2 (funext fun a => Fin.ext ?_)
  refine (Pipeline.Window.rect_emb_val win2_5 t y a).trans ?_
  match a with
  | ⟨0, _⟩ => show 0 * 64 + (y 0).val = (y 0).val; omega
  | ⟨1, _⟩ => show 0 * 32 + (y 1).val = (y 1).val; omega

theorem blk2_6 (c : Dev nD) (t : Fin cfg2.N) : blk2 I c 6 t = (I c).b2 := by
  funext y
  refine congrArg (I c).b2 (funext fun a => Fin.ext ?_)
  refine (Pipeline.Window.rect_emb_val win2_6 t y a).trans ?_
  match a with
  | ⟨0, _⟩ => show 0 * 1 + (y 0).val = (y 0).val; omega
  | ⟨1, _⟩ => show 0 * 32 + (y 1).val = (y 1).val; omega

theorem blk2_7 (c : Dev nD) (t : Fin cfg2.N) : blk2 I c 7 t = (I c).w3 := by
  funext y
  refine congrArg (I c).w3 (funext fun a => Fin.ext ?_)
  refine (Pipeline.Window.rect_emb_val win2_7 t y a).trans ?_
  match a with
  | ⟨0, _⟩ => show 0 * 32 + (y 0).val = (y 0).val; omega
  | ⟨1, _⟩ => show 0 * 1 + (y 1).val = (y 1).val; omega

theorem blk2_8 (c : Dev nD) (t : Fin cfg2.N) : blk2 I c 8 t = (I c).b3 := by
  funext y
  refine congrArg (I c).b3 (funext fun a => Fin.ext ?_)
  refine (Pipeline.Window.rect_emb_val win2_8 t y a).trans ?_
  match a with
  | ⟨0, _⟩ => show 0 * 1 + (y 0).val = (y 0).val; omega
  | ⟨1, _⟩ => show 0 * 1 + (y 1).val = (y 1).val; omega

theorem covers2_9 : (cfg2.win 9).Covers := by
  refine (cfg2.win 9).covers_of_indexMap_surj rfl (by decide) fun β => ?_
  have hb : (β (0 : Fin 2)).val < 8 := lt_of_lt_of_eq (β (0 : Fin 2)).isLt (by decide)
  have hb1 : (β (1 : Fin 2)).val < 1 := lt_of_lt_of_eq (β (1 : Fin 2)).isLt (by decide)
  let i : grid2.Coords := fun a => match a with
    | ⟨0, _⟩ => ⟨(β (0 : Fin 2)).val, hb⟩
  obtain ⟨t, ht⟩ := grid2.coords_surjective i
  refine ⟨i, fun a => ?_⟩
  have e : cc2_transform_9 i = ![(i 0).val, 0] := by rw [← ht]; exact idx2_9 t
  match a with
  | ⟨0, _⟩ => exact congrFun e 0
  | ⟨1, _⟩ =>
    refine (congrFun e 1).trans ?_
    show 0 = (β (1 : Fin 2)).val
    omega

/-- The three layers of one row, of the arrays as the last call takes them. -/
def rowOut (J : MlpIn Ideal) (b : Fin 16384) : EReal :=
  ∑ q : Fin 32, max (∑ p : Fin 64, max (∑ k : Fin 13, J.x (ix2 b k) * J.wx (ix2 k p) + ∑ k : Fin 416, J.e (ix2 b k) * J.we (ix2 k p) + J.b1 (ix2 0 p)) 0
    * J.w2 (ix2 p q) + J.b2 (ix2 0 q)) 0 * J.w3 (ix2 q 0) + J.b3 (ix2 0 0)

theorem res2_at (c : Dev nD) (t : Fin cfg2.N) (r : Fin 2048) (q : Fin 1) (b : Fin 16384) (hb : b.val = (grid2.coords t 0).val * 2048 + r.val) :
    res2 I c t (ix2 r q) = rowOut (I c) b := by
  obtain rfl : q = 0 := Subsingleton.elim _ _
  unfold res2
  rw [k2_pay1_at, blk2_2, blk2_3, blk2_4, blk2_5, blk2_6, blk2_7, blk2_8]
  unfold rowOut
  simp only [fun k => blk2_0 I c t r k b hb, fun k => blk2_1 I c t r k b hb]

theorem mlpOut_eq (c : Dev nD) : mlpOut I O B c = fun x => rowOut (I c) ⟨(x 0).val, (x 0).isLt⟩ := by
  unfold mlpOut
  refine (dat2 I O B c).arrAt_eq_of_covers 9 _ covers2_9 fun t hf y => ?_
  have hy0 : (y (0 : Fin 2)).val < 2048 := (y (0 : Fin 2)).isLt
  have hy1 : (y (1 : Fin 2)).val < 1 := (y (1 : Fin 2)).isLt
  have e := Pipeline.Window.rect_emb_val win2_9 t y 0
  rw [show win2_9.index t 0 = _ from congrFun (idx2_9 t) 0] at e
  show res2 I c t _ = rowOut (I c) _
  refine Eq.trans (show res2 I c t _ = res2 I c t (ix2 ⟨(y (0 : Fin 2)).val, hy0⟩ ⟨(y (1 : Fin 2)).val, hy1⟩) from congrArg _ (eq_ix2 _)) ?_
  exact res2_at I c t _ _ _ e

end Cert.Proof.K
-- ==== Proof.RefMath.lean ====
/-
  The reference at an index: the embeddings which it looks up, and its three layers.
-/
module

public import proofs.«01_k».proof.Proof.Gen.ReferenceIdeal
public import Idealize.ShloMosaic.Lib.ReduceAll
public import Idealize.ShloMosaic.Lib.Pointwise

@[expose] public section

noncomputable section

namespace Cert.Proof.R

open Cert.ReferenceIdeal Cert.ReferenceIdeal.Gen
open Idealize.ShloMosaic

/-- The lookup in one table for every row: the entry that the start index names, held within the table. -/
theorem gather_at {α : Type} (A : S26x100001x16.Idx → α) (idx : IVec S26x16384x1 32) (f : Fin 26) (b : Fin 16384) (l : Fin 16) :
    Host.gather gather_S26x100001x16_S26x16384x1_S26x16384x16_2_1_0_0_1_2_1116 A idx (ix3 f b l)
      = A (ix3 f ⟨min (idx (ix3 f b 0)).toInt.toNat 100000, by omega⟩ l) := by
  have m0 : (0 : Fin S26x100001x16.rank) ∈ gather_S26x100001x16_S26x16384x1_S26x16384x16_2_1_0_0_1_2_1116.operandBatchingDims := by decide
  have m1 : (1 : Fin S26x100001x16.rank) ∈ gather_S26x100001x16_S26x16384x1_S26x16384x16_2_1_0_0_1_2_1116.startIndexMap := by decide
  have m2 : (2 : Fin S26x100001x16.rank) ∈ gather_S26x100001x16_S26x16384x1_S26x16384x16_2_1_0_0_1_2_1116.sKept := by decide
  have n0 : (0 : Fin S26x100001x16.rank) ∉ gather_S26x100001x16_S26x16384x1_S26x16384x16_2_1_0_0_1_2_1116.sKept := by decide
  have n1 : (1 : Fin S26x100001x16.rank) ∉ gather_S26x100001x16_S26x16384x1_S26x16384x16_2_1_0_0_1_2_1116.sKept := by decide
  have n1' : (1 : Fin S26x100001x16.rank) ∉ gather_S26x100001x16_S26x16384x1_S26x16384x16_2_1_0_0_1_2_1116.operandBatchingDims := by decide
  have n2 : (2 : Fin S26x100001x16.rank) ∉ gather_S26x100001x16_S26x16384x1_S26x16384x16_2_1_0_0_1_2_1116.operandBatchingDims := by decide
  have n2' : (2 : Fin S26x100001x16.rank) ∉ gather_S26x100001x16_S26x16384x1_S26x16384x16_2_1_0_0_1_2_1116.startIndexMap := by decide
  have e : ∀ c, gather_S26x100001x16_S26x16384x1_S26x16384x16_2_1_0_0_1_2_1116.siIdx (ix3 f b l) c = ix3 f b 0 := by
    intro c
    funext a; refine Fin.ext ?_
    match a with
    | ⟨0, _⟩ => rfl
    | ⟨1, _⟩ => rfl
    | ⟨2, _⟩ => exact Nat.lt_one_iff.mp c.isLt
  unfold Host.gather
  refine congrArg A (funext fun a => Fin.ext ?_)
  show gather_S26x100001x16_S26x16384x1_S26x16384x16_2_1_0_0_1_2_1116.start _ idx a + gather_S26x100001x16_S26x16384x1_S26x16384x16_2_1_0_0_1_2_1116.batchCoord _ a + gather_S26x100001x16_S26x16384x1_S26x16384x16_2_1_0_0_1_2_1116.offCoord _ a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ m0, GatherDims.offCoord_eq_zero _ _ _ n0]
    unfold GatherDims.batchCoord
    rw [dif_pos m0]
    simp only [Nat.zero_add, Nat.add_zero]
    rfl
  · rw [GatherDims.batchCoord_eq_zero _ _ _ n1', GatherDims.offCoord_eq_zero _ _ _ n1]
    unfold GatherDims.start
    rw [dif_pos m1, e]
    rfl
  · rw [GatherDims.batchCoord_eq_zero _ _ _ n2]
    unfold GatherDims.start GatherDims.offCoord
    rw [dif_neg n2', dif_pos m2]
    simp only [Nat.zero_add, Nat.add_zero]
    rfl

variable {F : FTy → Type} [FloatOps F]

/-- Where each lookup begins. -/
def starts (a : IVec S16384x26 32) : IVec S26x16384x1 32 :=
  broadcastInDim S26x16384x1 ![0, 1] bcast_S26x16384_S26x16384x1_0_1 (transpose S26x16384 [1, 0] (select (cmpi .slt a (broadcastInDim S16384x26 ![] bcast_S_S16384x26 (constantI S_ 32 0#32))) (addi a (broadcastInDim S16384x26 ![] bcast_S_S16384x26 (constantI S_ 32 100001#32))) a) transposes_S16384x26_S26x16384_1_0)

/-- Which lookups are within the table. -/
def within (a : IVec S16384x26 32) : IVec S26x16384 1 :=
  Host.reduce IntOp.andi (andi (cmpi .sge (starts a) (broadcastInDim S26x16384x1 ![] bcast_S_S26x16384x1 (constantI S_ 32 0#32))) (cmpi .sle (starts a) (broadcastInDim S26x16384x1 ![0, 1, 2] bcast_S1x1x1_S26x16384x1_0_1_2 (broadcastInDim S1x1x1 ![2] bcast_S1_S1x1x1_2 (constantI S1 32 100000#32))))) (constantI S_ 1 1#1) reducesTo_S26x16384x1_S26x16384_d2 h_S_

/-- The entries looked up, by table. -/
def looked (A : FVec F S26x100001x16 .f32) (a : IVec S16384x26 32) : FVec F S26x16384x16 .f32 :=
  select (broadcastInDim S26x16384x16 ![0, 1] bcast_S26x16384_S26x16384x16_0_1 (within a)) (Host.gather gather_S26x100001x16_S26x16384x1_S26x16384x16_2_1_0_0_1_2_1116 A (starts a)) (broadcastInDim S26x16384x16 ![] bcast_S_S26x16384x16 (constant S_ .f32 0x7FC00000#32))

/-- The entries looked up, by row of the batch. -/
def embs (A : FVec F S26x100001x16 .f32) (a : IVec S16384x26 32) : FVec F S16384x416 .f32 :=
  shapeCast _ (transpose S16384x26x16 [1, 0, 2] (looked A a) transposes_S26x16384x16_S16384x26x16_1_0_2) shapeCasts_S16384x26x16_S16384x416

/-- The reference's result. -/
def ref (x : FVec F S16384x13 .f32) (a : IVec S16384x26 32) (A : FVec F S26x100001x16 .f32) (W1 : FVec F S429x64 .f32) (b1 : FVec F S64 .f32)
    (w2 : FVec F S64x32 .f32) (b2 : FVec F S32 .f32) (w3 : FVec F S32x1 .f32) (b3 : FVec F S1 .f32) : FVec F S16384 .f32 :=
  shapeCast _ (addf (Host.dotGeneral dot_S16384x32_S32x1_S16384x1_1_0_0_1_n_n none (maximumf (addf (Host.dotGeneral dot_S16384x64_S64x32_S16384x32_1_0_0_1_n_n none (maximumf (addf (Host.dotGeneral dot_S16384x429_S429x64_S16384x64_1_0_0_1_n_n none (concatenate S16384x429 1 [⟨S16384x13, x⟩, ⟨S16384x416, (embs A a)⟩] concatenates_S16384x13_S16384x416_S16384x429_d1) W1) (broadcastInDim S16384x64 ![0, 1] bcast_S1x64_S16384x64_0_1 (broadcastInDim S1x64 ![1] bcast_S64_S1x64_1 b1))) (broadcastInDim S16384x64 ![] bcast_S_S16384x64 (constant S_ .f32 0x00000000#32))) w2) (broadcastInDim S16384x32 ![0, 1] bcast_S1x32_S16384x32_0_1 (broadcastInDim S1x32 ![1] bcast_S32_S1x32_1 b2))) (broadcastInDim S16384x32 ![] bcast_S_S16384x32 (constant S_ .f32 0x00000000#32))) w3) (broadcastInDim S16384x1 ![0, 1] bcast_S1x1_S16384x1_0_1 (broadcastInDim S1x1 ![1] bcast_S1_S1x1_1 b3))) shapeCasts_S16384x1_S16384

theorem starts_at (a : IVec S16384x26 32) (ha : ∀ j, (a j).toNat < 100000) (f : Fin 26) (b : Fin 16384) (z : Fin 1) : starts a (ix3 f b z) = a (ix2 b f) := by
  have h := ha (ix2 b f)
  have e : IntOp.cmpi .slt (a (ix2 b f)) 0#32 = 0#1 := by
    have : ¬ (a (ix2 b f)).toInt < 0 := by rw [BitVec.toInt_eq_toNat_cond]; split <;> omega
    simp only [IntOp.cmpi, BitVec.slt_eq_decide]
    simp [this]
  pointwise [starts]
  rw [e]
  rfl

theorem within_at (a : IVec S16384x26 32) (ha : ∀ j, (a j).toNat < 100000) (j : S26x16384.Idx) : within a j = 1#1 := by
  unfold within
  refine Host.reduce_andi_one _ _ _ _ _ rfl fun i => ?_
  idx_vars i
  have h := ha (ix2 i1 i0)
  have e := starts_at a ha i0 i1 i2
  pointwise
  rw [e]
  have t : (a (ix2 i1 i0)).toInt = (a (ix2 i1 i0)).toNat := by rw [BitVec.toInt_eq_toNat_cond]; split <;> omega
  have t0 : (0 : Int) ≤ (a (ix2 i1 i0)).toNat := by omega
  have t1 : ((a (ix2 i1 i0)).toNat : Int) ≤ 100000 := by omega
  simp only [IntOp.cmpi, BitVec.sle_eq_decide, t]
  have e0 : decide ((0#32).toInt ≤ ((a (ix2 i1 i0)).toNat : Int)) = true := decide_eq_true t0
  have e1 : decide (((a (ix2 i1 i0)).toNat : Int) ≤ (100000#32).toInt) = true := decide_eq_true t1
  rw [e0, e1]
  rfl

theorem embs_at (A : FVec F S26x100001x16 .f32) (a : IVec S16384x26 32) (ha : ∀ j, (a j).toNat < 100000) (b : Fin 16384) (k : Fin 416) :
    embs A a (ix2 b k) = A (ix3 ⟨k.val / 16, by omega⟩ ⟨(a (ix2 b ⟨k.val / 16, by omega⟩)).toNat, by have := ha (ix2 b ⟨k.val / 16, by omega⟩); omega⟩ ⟨k.val % 16, by omega⟩) := by
  pointwise [embs, looked]
  rw [within_at a ha]
  refine (gather_at A (starts a) ⟨k.val / 16, by omega⟩ b ⟨k.val % 16, by omega⟩).trans ?_
  have h := ha (ix2 b ⟨k.val / 16, by omega⟩)
  refine congrArg (fun v => A (ix3 _ v _)) (Fin.ext ?_)
  show min (starts a (ix3 _ b 0)).toInt.toNat 100000 = _
  rw [starts_at a ha]
  rw [show (a (ix2 b ⟨k.val / 16, by omega⟩)).toInt = (a (ix2 b ⟨k.val / 16, by omega⟩)).toNat by rw [BitVec.toInt_eq_toNat_cond]; split <;> omega]
  show min (a (ix2 b ⟨k.val / 16, by omega⟩)).toNat 100000 = (a (ix2 b ⟨k.val / 16, by omega⟩)).toNat
  omega

/-- The three layers of one row: its 13 numbers, its 416 looked up, and the weights. -/
def layers (x : Fin 13 → EReal) (e : Fin 416 → EReal) (W1 : (⟨2, ![429, 64]⟩ : Shape).Idx → EReal) (b1 : (⟨1, ![64]⟩ : Shape).Idx → EReal)
    (w2 : (⟨2, ![64, 32]⟩ : Shape).Idx → EReal) (b2 : (⟨1, ![32]⟩ : Shape).Idx → EReal) (w3 : (⟨2, ![32, 1]⟩ : Shape).Idx → EReal)
    (b3 : (⟨1, ![1]⟩ : Shape).Idx → EReal) : EReal :=
  ∑ q : Fin 32, max (∑ p : Fin 64, max (∑ k : Fin 13, x k * W1 (ix2 ⟨k.val, by omega⟩ p) + ∑ k : Fin 416, e k * W1 (ix2 ⟨13 + k.val, by omega⟩ p) + b1 (ix1 p)) 0
    * w2 (ix2 p q) + b2 (ix1 q)) 0 * w3 (ix2 q 0) + b3 (ix1 0)

set_option maxRecDepth 16384 in
theorem ref_at (x : FVec Ideal S16384x13 .f32) (a : IVec S16384x26 32) (A : FVec Ideal S26x100001x16 .f32) (W1 : FVec Ideal S429x64 .f32) (b1 : FVec Ideal S64 .f32)
    (w2 : FVec Ideal S64x32 .f32) (b2 : FVec Ideal S32 .f32) (w3 : FVec Ideal S32x1 .f32) (b3 : FVec Ideal S1 .f32) (b : Fin 16384) :
    ref x a A W1 b1 w2 b2 w3 b3 (ix1 b) = layers (fun k => x (ix2 b k)) (fun k => embs A a (ix2 b k)) W1 b1 w2 b2 w3 b3 := by
  unfold layers
  pointwise [ref]

end Cert.Proof.R

end
-- ==== Proof.Result.lean ====
/-
  The kernel's result at an index, of its arguments alone.
-/
module

public import proofs.«01_k».proof.Proof.MlpMath
public import proofs.«01_k».proof.Proof.GatherMath
public import proofs.«01_k».proof.Proof.RefMath
public import Idealize.ShloMosaic.Lib.Pointwise
public import Idealize.ShloMosaic.Lib.Pipeline.Covers
public import Idealize.ShloMosaic.Lib.Pipeline.ValueKit
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (v : Vals F)

theorem V₂_arg3 (d : Dev nD) : V₂ m v d (Proc.devRef .tc main_arg3) = m (d, Proc.devRef .tc main_arg3) := by
  refine (Function.update_of_ne (by decide) _ _).trans ?_
  unfold V₁ ops1
  after_results
  rfl

theorem V₃_v23 (d : Dev nD) : V₃ m v d (Proc.devRef .tc main_v23) = extractStridedSlice S13x64 ![0, 0] (m (d, Proc.devRef .tc main_arg3)) slices_S429x64_S13x64_0_0 := by
  unfold V₃ ops2
  after_results
  rw [V₂_arg3]

theorem V₃_v24 (d : Dev nD) : V₃ m v d (Proc.devRef .tc main_v24) = extractStridedSlice S416x64 ![13, 0] (m (d, Proc.devRef .tc main_arg3)) slices_S429x64_S416x64_13_0 := by
  unfold V₃ ops2
  after_results
  rw [V₂_arg3]

theorem V₂_arg4 (d : Dev nD) : V₂ m v d (Proc.devRef .tc main_arg4) = m (d, Proc.devRef .tc main_arg4) := by
  refine (Function.update_of_ne (by decide) _ _).trans ?_
  unfold V₁ ops1
  after_results
  rfl

theorem V₃_v25 (d : Dev nD) : V₃ m v d (Proc.devRef .tc main_v25) = shapeCast S1x64 (m (d, Proc.devRef .tc main_arg4)) shapeCasts_S64_S1x64 := by
  unfold V₃ ops2
  after_results
  rw [V₂_arg4]
  rfl

theorem V₂_arg6 (d : Dev nD) : V₂ m v d (Proc.devRef .tc main_arg6) = m (d, Proc.devRef .tc main_arg6) := by
  refine (Function.update_of_ne (by decide) _ _).trans ?_
  unfold V₁ ops1
  after_results
  rfl

theorem V₃_v26 (d : Dev nD) : V₃ m v d (Proc.devRef .tc main_v26) = shapeCast S1x32 (m (d, Proc.devRef .tc main_arg6)) shapeCasts_S32_S1x32 := by
  unfold V₃ ops2
  after_results
  rw [V₂_arg6]
  rfl

theorem V₂_arg8 (d : Dev nD) : V₂ m v d (Proc.devRef .tc main_arg8) = m (d, Proc.devRef .tc main_arg8) := by
  refine (Function.update_of_ne (by decide) _ _).trans ?_
  unfold V₁ ops1
  after_results
  rfl

theorem V₃_v27 (d : Dev nD) : V₃ m v d (Proc.devRef .tc main_v27) = shapeCast S1x1 (m (d, Proc.devRef .tc main_arg8)) shapeCasts_S1_S1x1 := by
  unfold V₃ ops2
  after_results
  rw [V₂_arg8]
  rfl

/-- The gathered array, reshaped to one row for every row of the batch. -/
theorem row_emb (A : S26x100001x16.Idx → Elt F .f32) (a : S16384x26.Idx → BitVec 32) (ha : ∀ j, (a j).toNat < 100000) (b : Fin 16384) (k : Fin 416) :
    shapeCast S16384x416 (embOf A a) shapeCasts_S32x26x64x128_S16384x416 (ix2 b k)
      = A (ix3 ⟨k.val / 16, by omega⟩ ⟨(a (ix2 b ⟨k.val / 16, by omega⟩)).toNat, by have := ha (ix2 b ⟨k.val / 16, by omega⟩); omega⟩ ⟨k.val % 16, by omega⟩) := by
  pointwise
  have hk := k.isLt
  have hf : (((Shape.reshapeEquiv shapeCasts_S32x26x64x128_S16384x416 (ix2 b k) 0).val * 26 + (Shape.reshapeEquiv shapeCasts_S32x26x64x128_S16384x416 (ix2 b k) 1).val) * 64
      + (Shape.reshapeEquiv shapeCasts_S32x26x64x128_S16384x416 (ix2 b k) 2).val) * 128 + (Shape.reshapeEquiv shapeCasts_S32x26x64x128_S16384x416 (ix2 b k) 3).val = b.val * 416 + k.val := by
    have := Shape.rowMajor_reshapeEquiv shapeCasts_S32x26x64x128_S16384x416 (ix2 b k)
    rw [Shape.rowMajor_val_two, Shape.rowMajor_val_four] at this
    exact this
  unfold embOf
  rw [hf]
  unfold embAt
  have hq : (b.val * 416 + k.val) / 16 = b.val * 26 + k.val / 16 := by omega
  have hr : (b.val * 416 + k.val) % 16 = k.val % 16 := by omega
  have hp : (b.val * 26 + k.val / 16) / 26 = b.val := by omega
  have hm : (b.val * 26 + k.val / 16) % 26 = k.val / 16 := by omega
  have hc : catAt a (b.val * 26 + k.val / 16) = a (ix2 b ⟨k.val / 16, by omega⟩) := by
    unfold catAt
    rw [hp, hm]
    refine congrArg a (funext fun i => Fin.ext ?_)
    match i with
    | ⟨0, _⟩ => exact ix_val pos_A ![b.val, k.val / 16] 0 b.isLt
    | ⟨1, _⟩ => exact ix_val pos_A ![b.val, k.val / 16] 1 (show k.val / 16 < 26 by omega)
  have ht := ha (ix2 b ⟨k.val / 16, by omega⟩)
  rw [hq, hr, hm, hc]
  refine congrArg A (funext fun i => Fin.ext ?_)
  match i with
  | ⟨0, _⟩ => exact ix_val pos_S2 ![k.val / 16, (a (ix2 b ⟨k.val / 16, by omega⟩)).toNat, k.val % 16] 0 (show k.val / 16 < 26 by omega)
  | ⟨1, _⟩ => exact ix_val pos_S2 ![k.val / 16, (a (ix2 b ⟨k.val / 16, by omega⟩)).toNat, k.val % 16] 1 (show (a (ix2 b ⟨k.val / 16, by omega⟩)).toNat < 100001 by omega)
  | ⟨2, _⟩ => exact ix_val pos_S2 ![k.val / 16, (a (ix2 b ⟨k.val / 16, by omega⟩)).toNat, k.val % 16] 2 (show k.val % 16 < 16 by omega)

set_option maxRecDepth 16384 in
/-- The last call's row, of the arguments: the three layers of the row's numbers and of its gathered row. -/
theorem rowOut_eq (x : S16384x13.Idx → EReal) (e : S16384x416.Idx → EReal) (W1 : S429x64.Idx → EReal) (b1 : S64.Idx → EReal) (w2 : S64x32.Idx → EReal) (b2 : S32.Idx → EReal)
    (w3 : S32x1.Idx → EReal) (b3 : S1.Idx → EReal) (o : S16384x1.Idx → EReal) (b : Fin 16384) :
    rowOut ⟨x, e, extractStridedSlice S13x64 ![0, 0] W1 slices_S429x64_S13x64_0_0, extractStridedSlice S416x64 ![13, 0] W1 slices_S429x64_S416x64_13_0,
      shapeCast S1x64 b1 shapeCasts_S64_S1x64, w2, shapeCast S1x32 b2 shapeCasts_S32_S1x32, w3, shapeCast S1x1 b3 shapeCasts_S1_S1x1, o⟩ b
      = R.layers (fun k => x (ix2 b k)) (fun k => e (ix2 b k)) W1 b1 w2 b2 w3 b3 := by
  unfold rowOut R.layers
  pointwise

theorem column_at (Y : S16384x1.Idx → EReal) (b : Fin 16384) : shapeCast S16384 Y shapeCasts_S16384x1_S16384 (ix1 b) = Y (ix2 b 0) := by
  pointwise

/-- The result at row `b`, of the launch's arguments. -/
theorem result_at (m : (ℓ : Loc nD τ sig) → Buf (Elt Ideal) ℓ) (hok : InVocab m) (O : (c : Dev nD) → CellTallies nD τ sig (HIx 1)) (B : ℕ) (c : Dev nD) (b : Fin 16384) :
    shapeCast S16384 (mlpOut (mlpIn m (vals m hok)) O B c) shapeCasts_S16384x1_S16384 (ix1 b)
      = R.layers (fun k => (m (c, Proc.devRef .tc main_arg0) : S16384x13.Idx → EReal) (ix2 b k))
        (fun k => shapeCast S16384x416 (embOf (F := Ideal) (m (c, Proc.devRef .tc main_arg2)) (m (c, Proc.devRef .tc main_arg1))) shapeCasts_S32x26x64x128_S16384x416 (ix2 b k))
        (m (c, Proc.devRef .tc main_arg3)) (m (c, Proc.devRef .tc main_arg4)) (m (c, Proc.devRef .tc main_arg5)) (m (c, Proc.devRef .tc main_arg6))
        (m (c, Proc.devRef .tc main_arg7)) (m (c, Proc.devRef .tc main_arg8)) := by
  rw [column_at, mlpOut_eq]
  have h : mlpIn m (vals m hok) c = ⟨m (c, Proc.devRef .tc main_arg0),
      shapeCast S16384x416 (embOf (F := Ideal) (m (c, Proc.devRef .tc main_arg2)) (m (c, Proc.devRef .tc main_arg1))) shapeCasts_S32x26x64x128_S16384x416,
      extractStridedSlice S13x64 ![0, 0] (m (c, Proc.devRef .tc main_arg3)) slices_S429x64_S13x64_0_0,
      extractStridedSlice S416x64 ![13, 0] (m (c, Proc.devRef .tc main_arg3)) slices_S429x64_S416x64_13_0,
      shapeCast S1x64 (m (c, Proc.devRef .tc main_arg4)) shapeCasts_S64_S1x64, m (c, Proc.devRef .tc main_arg5),
      shapeCast S1x32 (m (c, Proc.devRef .tc main_arg6)) shapeCasts_S32_S1x32, m (c, Proc.devRef .tc main_arg7),
      shapeCast S1x1 (m (c, Proc.devRef .tc main_arg8)) shapeCasts_S1_S1x1, V₃ m (vals m hok) c (Proc.devRef .tc main_v28)⟩ := by
    unfold mlpIn
    rw [V₃_arg0, V₃_v22, V₃_v23, V₃_v24, V₃_v25, V₃_arg5, V₃_v26, V₃_arg7, V₃_v27]
    rfl
  show rowOut (mlpIn m (vals m hok) c) b = _
  rw [h]
  exact rowOut_eq _ _ _ _ _ _ _ _ _ b

end Cert.Proof.K
-- ==== Proof.Algebraic.lean ====
/-
  The value claim: the kernel's result is the reference's, from equal arguments.
-/
module

public import proofs.«01_k».proof.Proof.Frames
public import proofs.«01_k».proof.Proof.Result
public import proofs.«01_k».proof.Proof.Gen.ReferenceIdeal.Run
public import Idealize.ShloMosaic.Lib.Pointwise
public import Idealize.ShloMosaic.Lib.Pipeline.Covers
public import Idealize.ShloMosaic.Lib.Pipeline.ValueKit
public import Idealize.ShloMosaic.Lib.Pipeline.ArrRel
public import Idealize.ShloMosaic.Lib.Pipeline.RegionsLoop
public import Idealize.ShloMosaic.Lib.VecWindow

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The reference's result on a device, of the kernel's arguments. -/
def spec (m : (ℓ : Loc nD τ sig) → Buf (Elt Ideal) ℓ) (c : Dev nD) : S16384.Idx → EReal :=
  R.ref (F := Ideal) (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7)) (m (c, Proc.devRef .tc main_arg8))

theorem result_eq (m : (ℓ : Loc nD τ sig) → Buf (Elt Ideal) ℓ) (hok : InVocab m) (O : (c : Dev nD) → CellTallies nD τ sig (HIx 1)) (B : ℕ) (c : Dev nD) :
    shapeCast S16384 (mlpOut (mlpIn m (vals m hok)) O B c) shapeCasts_S16384x1_S16384 = spec m c := by
  funext j
  obtain ⟨b, rfl⟩ : ∃ b : Fin 16384, j = ix1 b := ⟨j 0, eq_ix1 j⟩
  rw [result_at]
  refine Eq.trans ?_ (R.ref_at _ _ _ _ _ _ _ _ _ b).symm
  refine congrArg (fun e => R.layers _ e _ _ _ _ _ _) (funext fun k => ?_)
  exact (row_emb _ _ (hok c) b k).trans (R.embs_at (F := Ideal) _ _ (hok c) b k).symm

theorem algebraic : Cert.algebraic_KernelIdeal_ReferenceIdeal (hKernelIdeal := Cert.KernelIdeal.Gen.facts) (hReferenceIdeal := Cert.ReferenceIdeal.Gen.facts)
    (hPre_in_vocab := Cert.Pre_in_vocab.Gen.facts) := by
  intro m g m' g' hpre hargs
  refine ⟨fun c => spec m c, (θ_run _ _ _).mono (fun r h c => ⟨(h.1 c).1.trans (result_eq m (ok_KernelIdeal m hpre) _ _ c), (h.1 c).2⟩) (ends (F := Ideal) m g (ok_KernelIdeal m hpre)),
    (θ_run (Cert.ReferenceIdeal.defs (F := Ideal)) _ _).mono (fun r h c => ⟨(h c).1.trans ?_, (h c).2⟩) (Cert.ReferenceIdeal.Value.run (F := Ideal) m' g')⟩
  obtain ⟨a0, a1, a2, a3, a4, a5, a6, a7, a8⟩ := hargs c
  have e : R.ref (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = spec m c := by
    rw [a0, a1, a2, a3, a4, a5, a6, a7, a8]
    rfl
  refine Eq.trans ?_ e
  unfold R.ref R.embs R.looked R.within R.starts
  rfl

end Cert.Proof.K
-- ==== Proof.lean ====
/-
  The whole claim, from its parts: the frames of the kernel and of the reference, and the equality of their results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_vocab
public import proofs.«01_k».proof.Proof.Frames
public import proofs.«01_k».proof.Proof.RefFrames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_in_vocab.Gen.facts,
    K.frame_Kernel, K.frame_KernelIdeal, K.frame_ReferenceIdeal, K.frame_ReferenceIdeal_pre, trivial, K.algebraic⟩

end Cert.Proof

end
